-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_segments_match [hPre_segments_match : Cert.Pre_segments_match.Facts] (m : (ℓ : Loc Cert.KernelIdeal.nD Cert.KernelIdeal.τ Cert.KernelIdeal.sig) → Buf (Elt Ideal) ℓ) : Prop :=
  ∀ c : Dev Cert.KernelIdeal.nD,
    (Cert.Pre_segments_match.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_segments_match.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_segments_match.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_segments_match [hPre_segments_match : Cert.Pre_segments_match.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_segments_match.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_segments_match.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_segments_match.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_segments_match [hKernelIdeal : Cert.KernelIdeal.Facts] [hPre_segments_match : Cert.Pre_segments_match.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_segments_match m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_segments_match [hReferenceIdeal : Cert.ReferenceIdeal.Facts] [hPre_segments_match : Cert.Pre_segments_match.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_segments_match m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_segments_match [hKernelIdeal : Cert.KernelIdeal.Facts] [hReferenceIdeal : Cert.ReferenceIdeal.Facts] [hPre_segments_match : Cert.Pre_segments_match.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_segments_match m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_segments_match : Cert.Pre_segments_match.Facts),
    quiescent_Kernel (hKernel := hKernel)
    ∧ quiescent_KernelIdeal (hKernelIdeal := hKernelIdeal)
    ∧ quiescent_KernelIdeal_pre_segments_match (hKernelIdeal := hKernelIdeal) (hPre_segments_match := hPre_segments_match)
    ∧ quiescent_ReferenceIdeal (hReferenceIdeal := hReferenceIdeal)
    ∧ quiescent_ReferenceIdeal_pre_segments_match (hReferenceIdeal := hReferenceIdeal) (hPre_segments_match := hPre_segments_match)
    ∧ preserves_Kernel_KernelIdeal
    ∧ algebraic_KernelIdeal_ReferenceIdeal_pre_segments_match (hKernelIdeal := hKernelIdeal) (hReferenceIdeal := hReferenceIdeal) (hPre_segments_match := hPre_segments_match)
-- ==== Pre_segments_match.lean ====
abbrev S33057x64 : Shape := ⟨2, ![33057, 64]⟩
abbrev S17 : Shape := ⟨1, ![17]⟩
abbrev S33057 : Shape := ⟨1, ![33057]⟩
abbrev S64x64 : Shape := ⟨2, ![64, 64]⟩
abbrev S64 : Shape := ⟨1, ![64]⟩
abbrev S128x128 : Shape := ⟨2, ![128, 128]⟩
abbrev S128 : Shape := ⟨1, ![128]⟩
abbrev S128x16 : Shape := ⟨2, ![128, 16]⟩
abbrev S16 : Shape := ⟨1, ![16]⟩
abbrev S128x1 : Shape := ⟨2, ![128, 1]⟩
abbrev S1 : Shape := ⟨1, ![1]⟩
abbrev S1x33057 : Shape := ⟨2, ![1, 33057]⟩
abbrev S16x1 : Shape := ⟨2, ![16, 1]⟩
abbrev S16x33057 : Shape := ⟨2, ![16, 33057]⟩
abbrev S_ : Shape := ⟨0, ![]⟩

class Facts : Prop where
  bcast_S33057_S1x33057_1 : S33057.BroadcastsInDim S1x33057 (![1] : Fin 1 → Fin S1x33057.rank)
  bcast_S16_S16x1_0 : S16.BroadcastsInDim S16x1 (![0] : Fin 1 → Fin S16x1.rank)
  slices_S17_S16_0 : S17.Slices ![0] S16
  slices_S17_S16_1 : S17.Slices ![1] S16
  bcast_S1x33057_S16x33057_0_1 : S1x33057.BroadcastsInDim S16x33057 (![0, 1] : Fin 2 → Fin S16x33057.rank)
  bcast_S16x1_S16x33057_0_1 : S16x1.BroadcastsInDim S16x33057 (![0, 1] : Fin 2 → Fin S16x33057.rank)
  bcast_S_S16 : S_.BroadcastsInDim S16 (![] : Fin 0 → Fin S16.rank)

variable [Facts]

def fn_part1 {F : FTy → Type} [FloatOps F] (main_v4 : IVec S16 32) (main_v5 : IVec S16 32) (main_v19 : IVec S16x33057 1) (main_v21 : IVec S16 1) (main_c_0 : IVec S_ 32) : IVec S16x33057 1 × IVec S16 1 × IVec S16 1 :=
  let main_v22 : IVec S16 32 := broadcastInDim S16 ![] bcast_S_S16 main_c_0
  let main_v23 : IVec S16 1 := cmpi .slt main_v4 main_v22
  let main_v24 : IVec S16 1 := andi main_v21 main_v23
  let main_c_1 : IVec S_ 32 := constantI S_ 32 0#32
  let main_v25 : IVec S16 32 := broadcastInDim S16 ![] bcast_S_S16 main_c_1
  let main_v26 : IVec S16 1 := cmpi .sge main_v5 main_v25
  let main_c_2 : IVec S_ 32 := constantI S_ 32 33057#32
  let main_v27 : IVec S16 32 := broadcastInDim S16 ![] bcast_S_S16 main_c_2
  let main_v28 : IVec S16 1 := cmpi .sle main_v5 main_v27
  let main_v29 : IVec S16 1 := andi main_v26 main_v28
  (main_v19, main_v24, main_v29)

def fn {F : FTy → Type} [FloatOps F] (main_arg0 : FVec F S33057x64 .f32) (main_arg1 : IVec S17 32) (main_arg2 : IVec S33057 32) (main_arg3 : FVec F S64x64 .f32) (main_arg4 : FVec F S64 .f32) (main_arg5 : FVec F S128x128 .f32) (main_arg6 : FVec F S128 .f32) (main_arg7 : FVec F S128x16 .f32) (main_arg8 : FVec F S16 .f32) (main_arg9 : FVec F S128x1 .f32) (main_arg10 : FVec F S1 .f32) : IVec S16x33057 1 × IVec S16 1 × IVec S16 1 :=
  let main_v0 : IVec S33057 32 := iotaInDim S33057 32 0
  let main_v1 : IVec S1x33057 32 := broadcastInDim S1x33057 ![1] bcast_S33057_S1x33057_1 main_v0
  let main_v2 : IVec S16 32 := iotaInDim S16 32 0
  let main_v3 : IVec S16x1 32 := broadcastInDim S16x1 ![0] bcast_S16_S16x1_0 main_v2
  let main_v4 : IVec S16 32 := (extractStridedSlice S16 ![0] · slices_S17_S16_0) main_arg1
  let main_v5 : IVec S16 32 := (extractStridedSlice S16 ![1] · slices_S17_S16_1) main_arg1
  let main_v6 : IVec S1x33057 32 := broadcastInDim S1x33057 ![1] bcast_S33057_S1x33057_1 main_arg2
  let main_v7 : IVec S16x33057 32 := broadcastInDim S16x33057 ![0, 1] bcast_S1x33057_S16x33057_0_1 main_v6
  let main_v8 : IVec S16x33057 32 := broadcastInDim S16x33057 ![0, 1] bcast_S16x1_S16x33057_0_1 main_v3
  let main_v9 : IVec S16x33057 1 := cmpi .eq main_v7 main_v8
  let main_v10 : IVec S16x1 32 := broadcastInDim S16x1 ![0] bcast_S16_S16x1_0 main_v4
  let main_v11 : IVec S16x33057 32 := broadcastInDim S16x33057 ![0, 1] bcast_S16x1_S16x33057_0_1 main_v10
  let main_v12 : IVec S16x33057 32 := broadcastInDim S16x33057 ![0, 1] bcast_S1x33057_S16x33057_0_1 main_v1
  let main_v13 : IVec S16x33057 1 := cmpi .sle main_v11 main_v12
  let main_v14 : IVec S16x1 32 := broadcastInDim S16x1 ![0] bcast_S16_S16x1_0 main_v5
  let main_v15 : IVec S16x33057 32 := broadcastInDim S16x33057 ![0, 1] bcast_S1x33057_S16x33057_0_1 main_v1
  let main_v16 : IVec S16x33057 32 := broadcastInDim S16x33057 ![0, 1] bcast_S16x1_S16x33057_0_1 main_v14
  let main_v17 : IVec S16x33057 1 := cmpi .slt main_v15 main_v16
  let main_v18 : IVec S16x33057 1 := andi main_v13 main_v17
  let main_v19 : IVec S16x33057 1 := cmpi .eq main_v9 main_v18
  let main_c : IVec S_ 32 := constantI S_ 32 0#32
  let main_v20 : IVec S16 32 := broadcastInDim S16 ![] bcast_S_S16 main_c
  let main_v21 : IVec S16 1 := cmpi .sge main_v4 main_v20
  let main_c_0 : IVec S_ 32 := constantI S_ 32 33057#32
  fn_part1 (F := F) main_v4 main_v5 main_v19 main_v21 main_c_0
-- ==== Kernel.lean ====
abbrev S33057x64 : Shape := ⟨2, ![33057, 64]⟩
abbrev S17 : Shape := ⟨1, ![17]⟩
abbrev S33057 : Shape := ⟨1, ![33057]⟩
abbrev S64x64 : Shape := ⟨2, ![64, 64]⟩
abbrev S64 : Shape := ⟨1, ![64]⟩
abbrev S128x128 : Shape := ⟨2, ![128, 128]⟩
abbrev S128 : Shape := ⟨1, ![128]⟩
abbrev S128x16 : Shape := ⟨2, ![128, 16]⟩
abbrev S16 : Shape := ⟨1, ![16]⟩
abbrev S128x1 : Shape := ⟨2, ![128, 1]⟩
abbrev S1 : Shape := ⟨1, ![1]⟩
abbrev S1x16640 : Shape := ⟨2, ![1, 16640]⟩
abbrev S1x17 : Shape := ⟨2, ![1, 17]⟩
abbrev S64x33057 : Shape := ⟨2, ![64, 33057]⟩
abbrev S1x64 : Shape := ⟨2, ![1, 64]⟩
abbrev S1x128 : Shape := ⟨2, ![1, 128]⟩
abbrev S16x128 : Shape := ⟨2, ![16, 128]⟩
abbrev S1x16 : Shape := ⟨2, ![1, 16]⟩
abbrev S1x1 : Shape := ⟨2, ![1, 1]⟩
abbrev S16x16 : Shape := ⟨2, ![16, 16]⟩
abbrev S64x16640 : Shape := ⟨2, ![64, 16640]⟩
abbrev S64x32 : Shape := ⟨2, ![64, 32]⟩
abbrev S17x1 : Shape := ⟨2, ![17, 1]⟩
abbrev S16x1 : Shape := ⟨2, ![16, 1]⟩
abbrev S32x1 : Shape := ⟨2, ![32, 1]⟩
abbrev S64x1 : Shape := ⟨2, ![64, 1]⟩
abbrev S32x16640 : Shape := ⟨2, ![32, 16640]⟩
abbrev S64x16 : Shape := ⟨2, ![64, 16]⟩

abbrev nBuf : Space → Nat
  | .hbm => 23
  | .vmem => 15
  | .smem => 0
  | _ => 0

abbrev bufTy : (tb : Table) → Fin (tcTables nBuf tb) → BufTy
  | .hbm, ⟨0, _⟩ => ⟨S33057x64, .f32⟩
  | .hbm, ⟨1, _⟩ => ⟨S17, .i32⟩
  | .hbm, ⟨2, _⟩ => ⟨S33057, .i32⟩
  | .hbm, ⟨3, _⟩ => ⟨S64x64, .f32⟩
  | .hbm, ⟨4, _⟩ => ⟨S64, .f32⟩
  | .hbm, ⟨5, _⟩ => ⟨S128x128, .f32⟩
  | .hbm, ⟨6, _⟩ => ⟨S128, .f32⟩
  | .hbm, ⟨7, _⟩ => ⟨S128x16, .f32⟩
  | .hbm, ⟨8, _⟩ => ⟨S16, .f32⟩
  | .hbm, ⟨9, _⟩ => ⟨S128x1, .f32⟩
  | .hbm, ⟨10, _⟩ => ⟨S1, .f32⟩
  | .hbm, ⟨11, _⟩ => ⟨S1x16640, .i32⟩
  | .hbm, ⟨12, _⟩ => ⟨S1x17, .i32⟩
  | .hbm, ⟨13, _⟩ => ⟨S64x33057, .f32⟩
  | .hbm, ⟨14, _⟩ => ⟨S1x64, .f32⟩
  | .hbm, ⟨15, _⟩ => ⟨S1x128, .f32⟩
  | .hbm, ⟨16, _⟩ => ⟨S16x128, .f32⟩
  | .hbm, ⟨17, _⟩ => ⟨S1x16, .f32⟩
  | .hbm, ⟨18, _⟩ => ⟨S1x128, .f32⟩
  | .hbm, ⟨19, _⟩ => ⟨S1x1, .f32⟩
  | .hbm, ⟨20, _⟩ => ⟨S16x16, .f32⟩
  | .hbm, ⟨21, _⟩ => ⟨S1x16, .f32⟩
  | .hbm, ⟨22, _⟩ => ⟨S16x1, .f32⟩
  | .local _ .vmem, ⟨0, _⟩ => ⟨S1x17, .i32⟩
  | .local _ .vmem, ⟨1, _⟩ => ⟨S1x16640, .i32⟩
  | .local _ .vmem, ⟨2, _⟩ => ⟨S64x16640, .f32⟩
  | .local _ .vmem, ⟨3, _⟩ => ⟨S64x16640, .f32⟩
  | .local _ .vmem, ⟨4, _⟩ => ⟨S64x64, .f32⟩
  | .local _ .vmem, ⟨5, _⟩ => ⟨S1x64, .f32⟩
  | .local _ .vmem, ⟨6, _⟩ => ⟨S128x128, .f32⟩
  | .local _ .vmem, ⟨7, _⟩ => ⟨S1x128, .f32⟩
  | .local _ .vmem, ⟨8, _⟩ => ⟨S16x128, .f32⟩
  | .local _ .vmem, ⟨9, _⟩ => ⟨S1x16, .f32⟩
  | .local _ .vmem, ⟨10, _⟩ => ⟨S1x128, .f32⟩
  | .local _ .vmem, ⟨11, _⟩ => ⟨S1x1, .f32⟩
  | .local _ .vmem, ⟨12, _⟩ => ⟨S16x16, .f32⟩
  | .local _ .vmem, ⟨13, _⟩ => ⟨S1x16, .f32⟩
  | .local _ .vmem, ⟨14, _⟩ => ⟨S64x32, .f32⟩
  | _, _ => ⟨S33057x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev main_v9 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_scratch0 : Ref sig .tc := ⟨.vmem, 14, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13

abbrev nD : Nat := 1
abbrev τ : Topo := Topo.v7x

variable {F : FTy → Type} [FloatOps F]

abbrev grid0 : Pipeline.Grid := ⟨1, ![2], ![false]⟩

def k0_cond3 (i : grid0.Coords) : BitVec 1 :=
  let arg0 : BitVec 32 := BitVec.ofNat 32 (i 0).val
  let c1_i32_14 : BitVec 32 := 1#32
  let v32 : BitVec 1 := Scalar.cmpi .eq arg0 c1_i32_14
  let v33 : BitVec 32 := Scalar.extui v32
  let c0_i32_15 : BitVec 32 := 0#32
  let v34 : BitVec 1 := Scalar.cmpi .ne v33 c0_i32_15
  v34

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x17 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x16640 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x16640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S33057x64 : Shape := ⟨2, ![33057, 64]⟩
abbrev S17 : Shape := ⟨1, ![17]⟩
abbrev S33057 : Shape := ⟨1, ![33057]⟩
abbrev S64x64 : Shape := ⟨2, ![64, 64]⟩
abbrev S64 : Shape := ⟨1, ![64]⟩
abbrev S128x128 : Shape := ⟨2, ![128, 128]⟩
abbrev S128 : Shape := ⟨1, ![128]⟩
abbrev S128x16 : Shape := ⟨2, ![128, 16]⟩
abbrev S16 : Shape := ⟨1, ![16]⟩
abbrev S128x1 : Shape := ⟨2, ![128, 1]⟩
abbrev S1 : Shape := ⟨1, ![1]⟩
abbrev S1x64 : Shape := ⟨2, ![1, 64]⟩
abbrev S_ : Shape := ⟨0, ![]⟩
abbrev S16x1 : Shape := ⟨2, ![16, 1]⟩
abbrev S1x1 : Shape := ⟨2, ![1, 1]⟩
abbrev S16x64 : Shape := ⟨2, ![16, 64]⟩
abbrev S33057x1 : Shape := ⟨2, ![33057, 1]⟩
abbrev S16x128 : Shape := ⟨2, ![16, 128]⟩
abbrev S1x128 : Shape := ⟨2, ![1, 128]⟩
abbrev S16x16 : Shape := ⟨2, ![16, 16]⟩
abbrev S1x16 : Shape := ⟨2, ![1, 16]⟩

abbrev nBuf : Space → Nat
  | .hbm => 84
  | .vmem => 0
  | .smem => 0
  | _ => 0

abbrev bufTy : (tb : Table) → Fin (tcTables nBuf tb) → BufTy
  | .hbm, ⟨0, _⟩ => ⟨S33057x64, .f32⟩
  | .hbm, ⟨1, _⟩ => ⟨S17, .i32⟩
  | .hbm, ⟨2, _⟩ => ⟨S33057, .i32⟩
  | .hbm, ⟨3, _⟩ => ⟨S64x64, .f32⟩
  | .hbm, ⟨4, _⟩ => ⟨S64, .f32⟩
  | .hbm, ⟨5, _⟩ => ⟨S128x128, .f32⟩
  | .hbm, ⟨6, _⟩ => ⟨S128, .f32⟩
  | .hbm, ⟨7, _⟩ => ⟨S128x16, .f32⟩
  | .hbm, ⟨8, _⟩ => ⟨S16, .f32⟩
  | .hbm, ⟨9, _⟩ => ⟨S128x1, .f32⟩
  | .hbm, ⟨10, _⟩ => ⟨S1, .f32⟩
  | .hbm, ⟨11, _⟩ => ⟨S33057x64, .f32⟩
  | .hbm, ⟨12, _⟩ => ⟨S1x64, .f32⟩
  | .hbm, ⟨13, _⟩ => ⟨S33057x64, .f32⟩
  | .hbm, ⟨14, _⟩ => ⟨S33057x64, .f32⟩
  | .hbm, ⟨15, _⟩ => ⟨S_, .f32⟩
  | .hbm, ⟨16, _⟩ => ⟨S33057x64, .f32⟩
  | .hbm, ⟨17, _⟩ => ⟨S33057x64, .f32⟩
  | .hbm, ⟨18, _⟩ => ⟨S16, .i32⟩
  | .hbm, ⟨19, _⟩ => ⟨S_, .i32⟩
  | .hbm, ⟨20, _⟩ => ⟨S16, .i32⟩
  | .hbm, ⟨21, _⟩ => ⟨S16, .i1⟩
  | .hbm, ⟨22, _⟩ => ⟨S_, .i32⟩
  | .hbm, ⟨23, _⟩ => ⟨S16, .i32⟩
  | .hbm, ⟨24, _⟩ => ⟨S16, .i32⟩
  | .hbm, ⟨25, _⟩ => ⟨S16, .i32⟩
  | .hbm, ⟨26, _⟩ => ⟨S16x1, .i32⟩
  | .hbm, ⟨27, _⟩ => ⟨S1, .i32⟩
  | .hbm, ⟨28, _⟩ => ⟨S_, .i32⟩
  | .hbm, ⟨29, _⟩ => ⟨S16x1, .i32⟩
  | .hbm, ⟨30, _⟩ => ⟨S16x1, .i1⟩
  | .hbm, ⟨31, _⟩ => ⟨S1x1, .i32⟩
  | .hbm, ⟨32, _⟩ => ⟨S16x1, .i32⟩
  | .hbm, ⟨33, _⟩ => ⟨S16x1, .i1⟩
  | .hbm, ⟨34, _⟩ => ⟨S16x1, .i1⟩
  | .hbm, ⟨35, _⟩ => ⟨S_, .i1⟩
  | .hbm, ⟨36, _⟩ => ⟨S16, .i1⟩
  | .hbm, ⟨37, _⟩ => ⟨S16x64, .f32⟩
  | .hbm, ⟨38, _⟩ => ⟨S16x64, .i1⟩
  | .hbm, ⟨39, _⟩ => ⟨S_, .f32⟩
  | .hbm, ⟨40, _⟩ => ⟨S16x64, .f32⟩
  | .hbm, ⟨41, _⟩ => ⟨S16x64, .f32⟩
  | .hbm, ⟨42, _⟩ => ⟨S_, .f32⟩
  | .hbm, ⟨43, _⟩ => ⟨S16x64, .f32⟩
  | .hbm, ⟨44, _⟩ => ⟨S33057x1, .i32⟩
  | .hbm, ⟨45, _⟩ => ⟨S16x64, .f32⟩
  | .hbm, ⟨46, _⟩ => ⟨S16, .i32⟩
  | .hbm, ⟨47, _⟩ => ⟨S16, .i32⟩
  | .hbm, ⟨48, _⟩ => ⟨S16, .i32⟩
  | .hbm, ⟨49, _⟩ => ⟨S_, .i32⟩
  | .hbm, ⟨50, _⟩ => ⟨S16, .i32⟩
  | .hbm, ⟨51, _⟩ => ⟨S16, .i32⟩
  | .hbm, ⟨52, _⟩ => ⟨S16x64, .f32⟩
  | .hbm, ⟨53, _⟩ => ⟨S_, .i32⟩
  | .hbm, ⟨54, _⟩ => ⟨S16, .i32⟩
  | .hbm, ⟨55, _⟩ => ⟨S16, .i32⟩
  | .hbm, ⟨56, _⟩ => ⟨S16, .f32⟩
  | .hbm, ⟨57, _⟩ => ⟨S16x1, .f32⟩
  | .hbm, ⟨58, _⟩ => ⟨S_, .i32⟩
  | .hbm, ⟨59, _⟩ => ⟨S16, .i32⟩
  | .hbm, ⟨60, _⟩ => ⟨S16, .i1⟩
  | .hbm, ⟨61, _⟩ => ⟨S16x1, .i1⟩
  | .hbm, ⟨62, _⟩ => ⟨S16x64, .f32⟩
  | .hbm, ⟨63, _⟩ => ⟨S16x64, .f32⟩
  | .hbm, ⟨64, _⟩ => ⟨S_, .f32⟩
  | .hbm, ⟨65, _⟩ => ⟨S16x64, .f32⟩
  | .hbm, ⟨66, _⟩ => ⟨S16x64, .i1⟩
  | .hbm, ⟨67, _⟩ => ⟨S16x64, .f32⟩
  | .hbm, ⟨68, _⟩ => ⟨S16x128, .f32⟩
  | .hbm, ⟨69, _⟩ => ⟨S16x128, .f32⟩
  | .hbm, ⟨70, _⟩ => ⟨S1x128, .f32⟩
  | .hbm, ⟨71, _⟩ => ⟨S16x128, .f32⟩
  | .hbm, ⟨72, _⟩ => ⟨S16x128, .f32⟩
  | .hbm, ⟨73, _⟩ => ⟨S_, .f32⟩
  | .hbm, ⟨74, _⟩ => ⟨S16x128, .f32⟩
  | .hbm, ⟨75, _⟩ => ⟨S16x128, .f32⟩
  | .hbm, ⟨76, _⟩ => ⟨S16x1, .f32⟩
  | .hbm, ⟨77, _⟩ => ⟨S1x1, .f32⟩
  | .hbm, ⟨78, _⟩ => ⟨S16x1, .f32⟩
  | .hbm, ⟨79, _⟩ => ⟨S16x1, .f32⟩
  | .hbm, ⟨80, _⟩ => ⟨S16x16, .f32⟩
  | .hbm, ⟨81, _⟩ => ⟨S1x16, .f32⟩
  | .hbm, ⟨82, _⟩ => ⟨S16x16, .f32⟩
  | .hbm, ⟨83, _⟩ => ⟨S16x16, .f32⟩
  | _, _ => ⟨S33057x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_cst : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_v14 : Ref sig .tc := ⟨.hbm, 38, rfl⟩
abbrev main_call1_cst : Ref sig .tc := ⟨.hbm, 39, rfl⟩
abbrev main_call1_v15 : Ref sig .tc := ⟨.hbm, 40, rfl⟩
abbrev main_v6 : Ref sig .tc := ⟨.hbm, 41, rfl⟩
abbrev main_cst : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_c : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_c_0 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_c_1 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_cst_2 : Ref sig .tc := ⟨.hbm, 64, rfl⟩
abbrev main_v25 : Ref sig .tc := ⟨.hbm, 65, rfl⟩
abbrev main_call2_v0 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_call3_cst : Ref sig .tc := ⟨.hbm, 73, rfl⟩
abbrev main_call3_v0 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩

abbrev nD : Nat := 1
abbrev τ : Topo := Topo.v7x

variable {F : FTy → Type} [FloatOps F]
-- ==== Proof.KernelIdealBody.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

/-! What the kernel's body does at each of the two grid points.

At point 0 it clears the scratch accumulator and adds what the first tile of columns contributes. At point 1 it
adds what the second tile contributes and writes the two results from the accumulator. Both are stated with the
exact contents left behind, as functions of the contents found in the input blocks. -/

@[expose] public section

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ### The contents, as functions of the blocks -/

/-- The accumulator after point 0: the first tile's sums added to zero. -/
def accFirst (i : grid0.Coords) (x0 : Vec F S1x17 .i32) (x1 : Vec F S1x16640 .i32) (x2 : Vec F S64x16640 .f32)
    (x3 : Vec F S64x64 .f32) (x4 : Vec F S1x64 .f32) : Vec F S64x32 .f32 :=
  k0_pay16 i x0 x3 x4 x1 x2 k0_pay7

/-- The accumulator after point 1, from what it held (`a`): the second tile's sums, its columns past the array's
    end masked out, added. -/
def accLast (i : grid0.Coords) (x0 : Vec F S1x17 .i32) (x1 : Vec F S1x16640 .i32) (x2 : Vec F S64x16640 .f32)
    (x3 : Vec F S64x64 .f32) (x4 : Vec F S1x64 .f32) (a : Vec F S64x32 .f32) : Vec F S64x32 .f32 :=
  k0_pay1 (BitVec.ofNat 32 (i 0).val) (k0_pay12 i x0) (k0_pay13 i x0) (k0_pay14 x3) (k0_pay15 x4) x1 x2 a

/-- The accumulator's left half: the segment sums. -/
def segOf (a : Vec F S64x32 .f32) : Vec F S64x16 .f32 :=
  View.ld a (Rect.unit (s := S64x32) ![0, 0] S64x16.size inb_S64x32_S64x16_0_0)

/-- The accumulator's right half: the agents' encodings. -/
def agentOf (a : Vec F S64x32 .f32) : Vec F S64x16 .f32 :=
  View.ld a (Rect.unit (s := S64x32) ![0, 16] S64x16.size inb_S64x32_S64x16_0_16)

/-- How many neighbours each agent has, as floats. -/
def countOf (x0 : Vec F S1x17 .i32) : FVec F S1x16 .f32 :=
  k0_pay3 (k0_pay8 (View.ld x0 (Rect.unit (s := S1x17) ![0, 0] S1x16.size inb_S1x17_S1x16_0_0)))
    (k0_pay9 (View.ld x0 (Rect.unit (s := S1x17) ![0, 1] S1x16.size inb_S1x17_S1x16_0_1)))

/-- The first result, from the final accumulator. -/
def decodeOf (a : Vec F S64x32 .f32) (x0 : Vec F S1x17 .i32) (x5 : Vec F S128x128 .f32) (x6 : Vec F S1x128 .f32)
    (x7 : Vec F S16x128 .f32) (x8 : Vec F S1x16 .f32) : Vec F S16x16 .f32 :=
  k0_pay5 (agentOf a) (k0_pay2 (segOf a) (agentOf a)) (countOf x0) (Scalar.ofBits .f32 0x3F800000#32) x5 x6 x7 x8

/-- The second result, still a row, from the final accumulator. -/
def valueOf (a : Vec F S64x32 .f32) (x0 : Vec F S1x17 .i32) (x5 : Vec F S128x128 .f32) (x6 : Vec F S1x128 .f32)
    (x9 : Vec F S1x128 .f32) (x10 : Vec F S1x1 .f32) : Vec F S1x16 .f32 :=
  k0_pay6 (agentOf a) (k0_pay2 (segOf a) (agentOf a)) (countOf x0) (Scalar.ofBits .f32 0x3F800000#32) x5 x6 x9 x10

/-! ### The three branches -/

/-- The first branch: is this point 0? -/
abbrev isFirst (i : grid0.Coords) : Prop :=
  (Scalar.cmpi .ne (Scalar.extui (Scalar.cmpi .eq (BitVec.ofNat 32 (i 0).val) 0#32)) 0#32) = 1#1
/-- The second branch: is this before the last point? -/
abbrev isInner (i : grid0.Coords) : Prop :=
  (Scalar.cmpi .ne (Scalar.extui (Scalar.cmpi .slt (BitVec.ofNat 32 (i 0).val) 1#32)) 0#32) = 1#1
/-- The third branch: is this the last point? -/
abbrev isLast (i : grid0.Coords) : Prop := k0_cond3 i = 1#1

theorem branches_0 : isFirst (grid0.coords t0_0) ∧ isInner (grid0.coords t0_0) ∧ ¬ isLast (grid0.coords t0_0) := by decide +kernel
theorem branches_1 : ¬ isFirst (grid0.coords t0_1) ∧ ¬ isInner (grid0.coords t0_1) ∧ isLast (grid0.coords t0_1) := by decide +kernel

/-! ### The two triples -/

private theorem zero2 : (![0, 0] : Fin 2 → ℕ) = fun _ => 0 := by funext a; fin_cases a <;> rfl

/-- A load of a whole buffer through a whole memref reads its contents. -/
theorem load_whole {S : Shape} {e : EltTy} (a : Memref sig .tc .vmem S e) (h : a.IsWhole) (X : Vec F S e)
    (off : Fin S.rank → ℕ) (h0 : off = fun _ => 0) (inb : ∀ a, off a + S.size a ≤ S.size a) :
    a.view.readAt (Elt F) (Rect.unit (s := S) off S.size inb).toLoadRect (h.unread X) = X := by
  rw [View.readAt_eq_ld, h.read_unread]
  exact View.ld_unit_zero h0 inb X

/-- What a last store of a whole buffer leaves reads as the value stored. -/
theorem stored_whole {S : Shape} {e : EltTy} (a : Memref sig .tc .vmem S e) (f : a.view.ty.Contents (Elt F))
    (off : Fin S.rank → ℕ) (h0 : off = fun _ => 0) (inb : ∀ a, off a + S.size a ≤ S.size a) (w : Vec F S e)
    (L : List (View.Piece (Elt F) S e)) :
    a.view.read (Elt F) (a.view.writes (Elt F) f (⟨Rect.unit (s := S) off S.size inb, w⟩ :: L)) = w := by
  rw [View.read_writes_eq_canon _ _ _ fun y => ⟨_, List.mem_cons_self, View.mem_set_unit_zero h0 inb y⟩]
  exact View.canon_cons_unit_zero h0 inb w L

/-- A load of part of a buffer through a whole memref reads that part of its contents. -/
theorem load_part {S : Shape} {e : EltTy} (a : Memref sig .tc .vmem S e) (h : a.IsWhole) (X : Vec F S e) (r : Rect S) :
    a.view.readAt (Elt F) r.toLoadRect (h.unread X) = View.ld X r := by
  rw [View.readAt_eq_ld, h.read_unread]

/-- A load of part of a buffer just stored whole reads that part of the value stored. -/
theorem loadCov_part {S : Shape} {e : EltTy} (a : Memref sig .tc .vmem S e) (off : Fin S.rank → ℕ) (h0 : off = fun _ => 0)
    (inb : ∀ a, off a + S.size a ≤ S.size a) (w : Vec F S e) (L : List (View.Piece (Elt F) S e)) (r : Rect S) :
    a.view.readCov (⟨Rect.unit (s := S) off S.size inb, w⟩ :: L) r.toLoadRect = View.ld w r := by
  rw [View.readCov_eq_canon', View.canon_cons_unit_zero h0 inb w L]

section
variable (c : Dev nD) (i : grid0.Coords)
  (arg1 : Memref sig .tc .vmem S1x17 .i32) (harg1 : arg1.IsWhole) (arg2 : Memref sig .tc .vmem S1x16640 .i32) (harg2 : arg2.IsWhole)
  (arg3 : Memref sig .tc .vmem S64x16640 .f32) (harg3 : arg3.IsWhole) (arg4 : Memref sig .tc .vmem S64x64 .f32) (harg4 : arg4.IsWhole)
  (arg5 : Memref sig .tc .vmem S1x64 .f32) (harg5 : arg5.IsWhole) (arg6 : Memref sig .tc .vmem S128x128 .f32) (harg6 : arg6.IsWhole)
  (arg7 : Memref sig .tc .vmem S1x128 .f32) (harg7 : arg7.IsWhole) (arg8 : Memref sig .tc .vmem S16x128 .f32) (harg8 : arg8.IsWhole)
  (arg9 : Memref sig .tc .vmem S1x16 .f32) (harg9 : arg9.IsWhole) (arg10 : Memref sig .tc .vmem S1x128 .f32) (harg10 : arg10.IsWhole)
  (arg11 : Memref sig .tc .vmem S1x1 .f32) (harg11 : arg11.IsWhole) (arg12 : Memref sig .tc .vmem S16x16 .f32) (harg12 : arg12.IsWhole)
  (arg13 : Memref sig .tc .vmem S1x16 .f32) (harg13 : arg13.IsWhole) (arg14 : Memref sig .tc .vmem S64x32 .f32) (harg14 : arg14.IsWhole)
  (x0 : Vec F S1x17 .i32) (x1 : Vec F S1x16640 .i32) (x2 : Vec F S64x16640 .f32) (x3 : Vec F S64x64 .f32) (x4 : Vec F S1x64 .f32)
  (x5 : Vec F S128x128 .f32) (x6 : Vec F S1x128 .f32) (x7 : Vec F S16x128 .f32) (x8 : Vec F S1x16 .f32) (x9 : Vec F S1x128 .f32)
  (x10 : Vec F S1x1 .f32) (a : Vec F S64x32 .f32)

set_option maxHeartbeats 1000000 in
set_option maxRecDepth 16384 in
/-- Point 0: whatever the scratch held, it ends at `accFirst` of the five blocks read, which are as they were. -/
theorem body_first (h0 : isFirst i) (h1 : isInner i) (h2 : ¬ isLast i) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg14 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg14 fullShare (accFirst i x0 x1 x2 x3 x4)) -∗ K ⟨⟩))
      ⊢ wp frame (wpE (defs₀ (F := F)) Variants.none c none) E
          (cc0__fused_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__fused_kernel_eq_skeleton]; unfold cc0__fused_kernel_skel
  simp only [k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | sl_exact h0 | sl_exact h1 | sl_exact h2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  iexists _; isplitr; swap; · iexact HS
  ipureintro
  rw [stored_whole _ _ _ zero2]
  unfold body_first.sl.v54 body_first.sl.HS_1
  rw [View.readCov_unit_zero (S := S64x32) _ zero2, load_whole arg1 harg1 x0 _ zero2, load_whole arg4 harg4 x3 _ zero2, load_whole arg5 harg5 x4 _ zero2,
      load_whole arg2 harg2 x1 _ zero2, load_whole arg3 harg3 x2 _ zero2]
  rfl

set_option maxHeartbeats 1000000 in
set_option maxRecDepth 16384 in
/-- Point 1: the scratch goes from `a` to `accLast` of the blocks read, the two result buffers end at `decodeOf` and
    `valueOf` of that, and the input blocks are as they were. -/
theorem body_last (h0 : ¬ isFirst i) (h1 : ¬ isInner i) (h2 : isLast i) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10
        ∗ (∃ d, owns (c : Thread nD τ) arg12 fullShare d) ∗ (∃ d, owns (c : Thread nD τ) arg13 fullShare d) ∗ owns (c : Thread nD τ) arg14 fullShare a
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10
            ∗ owns (c : Thread nD τ) arg12 fullShare (decodeOf (accLast i x0 x1 x2 x3 x4 a) x0 x5 x6 x7 x8)
            ∗ owns (c : Thread nD τ) arg13 fullShare (valueOf (accLast i x0 x1 x2 x3 x4 a) x0 x5 x6 x9 x10)
            ∗ owns (c : Thread nD τ) arg14 fullShare (accLast i x0 x1 x2 x3 x4 a)) -∗ K ⟨⟩))
      ⊢ wp frame (wpE (defs₀ (F := F)) Variants.none c none) E
          (cc0__fused_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__fused_kernel_eq_skeleton]; unfold cc0__fused_kernel_skel
  simp only [k0_part3_eq_skeleton, k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg8.eq_unread hf7; obtain rfl := harg9.eq_unread hf8
  obtain rfl := harg10.eq_unread hf9; obtain rfl := harg11.eq_unread hf10; obtain rfl := harg14.eq_unread hfs
  sl_exec (disch := first | sl_exact h0 | sl_exact h1 | sl_exact h2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; swap; · iexact H11
    ipureintro
    rw [stored_whole _ _ _ zero2]
    unfold body_last.sl.r body_last.sl.r_1 body_last.sl.v70 body_last.sl.v69 body_last.sl.cst_30 body_last.sl.HS_1
    rw [load_whole arg1 harg1 x0 _ zero2, load_whole arg4 harg4 x3 _ zero2, load_whole arg5 harg5 x4 _ zero2,
      load_whole arg2 harg2 x1 _ zero2, load_whole arg3 harg3 x2 _ zero2, load_whole arg14 harg14 a _ zero2,
      load_whole arg6 harg6 x5 _ zero2, load_whole arg7 harg7 x6 _ zero2, load_whole arg8 harg8 x7 _ zero2, load_whole arg9 harg9 x8 _ zero2,
      load_part arg1, load_part arg1, loadCov_part arg14 _ zero2, loadCov_part arg14 _ zero2]
    rfl
  isplitl [H12]
  · iexists _; isplitr; swap; · iexact H12
    ipureintro
    rw [stored_whole _ _ _ zero2]
    unfold body_last.sl.r_2
    unfold body_last.sl.r body_last.sl.r_1 body_last.sl.v70 body_last.sl.v69 body_last.sl.cst_30 body_last.sl.HS_1
    rw [load_whole arg1 harg1 x0 _ zero2, load_whole arg4 harg4 x3 _ zero2, load_whole arg5 harg5 x4 _ zero2,
      load_whole arg2 harg2 x1 _ zero2, load_whole arg3 harg3 x2 _ zero2, load_whole arg14 harg14 a _ zero2,
      load_whole arg6 harg6 x5 _ zero2, load_whole arg7 harg7 x6 _ zero2, load_whole arg10 harg10 x9 _ zero2, load_whole arg11 harg11 x10 _ zero2,
      load_part arg1, load_part arg1, loadCov_part arg14 _ zero2, loadCov_part arg14 _ zero2]
    rfl
  iexists _; isplitr; swap; · iexact HS
  ipureintro
  unfold body_last.sl.HS_1
  rw [stored_whole _ _ _ zero2]
  rw [load_whole arg1 harg1 x0 _ zero2, load_whole arg4 harg4 x3 _ zero2, load_whole arg5 harg5 x4 _ zero2,
      load_whole arg2 harg2 x1 _ zero2, load_whole arg3 harg3 x2 _ zero2, load_whole arg14 harg14 a _ zero2]
  rfl
end

end Cert.KernelIdeal.Hand

end
-- ==== Proof.KernelIdealTile.lean ====
module

public import proofs.«01_k».proof.Proof.KernelIdealBody
public import proofs.«01_k».proof.Proof.Gen.KernelIdeal.Frame
public import Idealize.ShloMosaic.Lib.Pointwise
public import Idealize.ShloMosaic.Lib.Pipeline.ValueKit

/-! The second tile of columns overhangs the array: what its buffer holds past the array's end is not known.
The kernel masks those columns out, and this module says so: the accumulator does not depend on them. -/

@[expose] public section

set_option maxRecDepth 16384

noncomputable section

namespace Cert.KernelIdeal.Hand

open Cert.KernelIdeal.Gen
open Idealize.ShloMosaic Idealize.ShloMosaic.TcCoe Idealize.ShloMosaic.Tactic

variable {F : FTy → Type} [FloatOps F]

/-- One tile added to the accumulator `a`: the tile's columns `x` are encoded (`w`, `b`), and column `p` of the
    result receives the encodings of the columns whose number in `x1` lies from `lo p` to before `hi p`. -/
def addTile (lo hi : IVec S32x1 32) (w : FVec F S64x64 .bf16) (b : FVec F S64x1 .bf16) (x1 : Vec F S1x16640 .i32)
    (x : FVec F S64x16640 .f32) (a : Vec F S64x32 .f32) : FVec F S64x32 .f32 :=
  shapeCast S64x32 (addf a (matmul dot_S64x16640_S32x16640_S64x32_1_1_0_0_n_n none
    (maximumf
      (addf (truncf .bf16 (matmul dot_S64x64_S64x16640_S64x16640_0_0_1_1_n_n none w (truncf .bf16 x bitsLt_bf16_f32)
          (constant S64x16640 .f32 0x00000000#32)) bitsLt_bf16_f32)
        (broadcastTo S64x16640 b broadcasts_S64x1_S64x16640))
      (broadcast S64x16640 (Scalar.ofBits .bf16 0x0000#16)))
    (truncf .bf16 (sitofp .f32 (extui 32 (andi
        (cmpi .sge (broadcastTo S32x16640 x1 broadcasts_S1x16640_S32x16640)
          (broadcastTo S32x16640 lo broadcasts_S32x1_S32x16640))
        (cmpi .slt (broadcastTo S32x16640 x1 broadcasts_S1x16640_S32x16640)
          (broadcastTo S32x16640 hi broadcasts_S32x1_S32x16640))) natLt_1_32)) bitsLt_bf16_f32)
    (constant S64x32 .f32 0x00000000#32))) shapeCasts_S64x32_S64x32

/-- A tile with the columns past the array's end replaced by zero. -/
def maskTile (i : grid0.Coords) (x1 : Vec F S1x16640 .i32) (x : Vec F S64x16640 .f32) : FVec F S64x16640 .f32 :=
  select (broadcastTo S64x16640 (shapeCast S1x16640 (cmpi .slt
      (addi x1 (broadcast S1x16640 (Scalar.muli (BitVec.ofNat 32 (i 0).val) 16640#32)))
      (broadcast S1x16640 33057#32)) shapeCasts_S1x16640_S1x16640) broadcasts_S1x16640_S64x16640)
    (shapeCast S64x16640 x shapeCasts_S64x16640_S64x16640) (broadcast S64x16640 (Scalar.ofBits .f32 0x00000000#32))

theorem accFirst_eq (i : grid0.Coords) (x0 : Vec F S1x17 .i32) (x1 : Vec F S1x16640 .i32) (x2 : Vec F S64x16640 .f32)
    (x3 : Vec F S64x64 .f32) (x4 : Vec F S1x64 .f32) :
    accFirst i x0 x1 x2 x3 x4 = addTile (k0_pay12 i x0) (k0_pay13 i x0) (k0_pay14 x3) (k0_pay15 x4) x1
      (shapeCast S64x16640 x2 shapeCasts_S64x16640_S64x16640) k0_pay7 := rfl

theorem accLast_eq (i : grid0.Coords) (x0 : Vec F S1x17 .i32) (x1 : Vec F S1x16640 .i32) (x2 : Vec F S64x16640 .f32)
    (x3 : Vec F S64x64 .f32) (x4 : Vec F S1x64 .f32) (a : Vec F S64x32 .f32) :
    accLast i x0 x1 x2 x3 x4 a = addTile (k0_pay12 i x0) (k0_pay13 i x0) (k0_pay14 x3) (k0_pay15 x4) x1
      (maskTile i x1 x2) a := rfl

/-- A masked tile, entry by entry. -/
theorem maskTile_apply (i : grid0.Coords) (x1 : Vec F S1x16640 .i32) (x : Vec F S64x16640 .f32) (r : Fin 64) (q : Fin 16640) :
    maskTile i x1 x (ix2 r q) = Scalar.select (IntOp.cmpi .slt
      (IntOp.addi (x1 (ix2 0 q)) (Scalar.muli (BitVec.ofNat 32 (i 0).val) 16640#32)) 33057#32)
      (x (ix2 r q)) (Scalar.ofBits .f32 0x00000000#32) := by
  pointwise [maskTile]

/-- The constant row of column numbers, from the array's end in the second tile on (its entries are their places). -/
theorem lit0t_tail : ∀ r : Fin 223, lit0t (16417 + r.val) = BitVec.ofNat 32 (16417 + r.val) := by
  decide +kernel

/-- In the second tile, the mask at a column past the array's end is off. -/
theorem mask_off (x : BitVec 32) (h : 16417 ≤ x.toNat) (h' : x.toNat < 16640) :
    IntOp.cmpi .slt (IntOp.addi x (Scalar.muli (BitVec.ofNat 32 (grid0.coords t0_1 0).val) 16640#32)) 33057#32 = 0#1 := by
  have e : (grid0.coords t0_1 0).val = 1 := by decide +kernel
  rw [e, IntOp.cmpi]
  simp only [Scalar.muli, IntOp.muli, IntOp.addi]
  rw [show BitVec.slt (x + BitVec.ofNat 32 1 * 16640#32) 33057#32 = false from ?_]; rfl
  rw [Bool.eq_false_iff, ne_eq, BitVec.slt_iff_toInt_lt]
  rw [BitVec.toInt_eq_toNat_of_lt (by simp only [BitVec.toNat_add, BitVec.toNat_mul, BitVec.toNat_ofNat]; omega)]
  simp only [BitVec.toNat_add, BitVec.toNat_mul, BitVec.toNat_ofNat]
  have : (33057#32).toInt = 33057 := by decide
  rw [this]; omega

variable (m : (ℓ : Loc nD τ sig) → Buf (Elt F) ℓ)

/-- What the second window reads: the constant row of column numbers. -/
theorem V_main_c (c : Dev nD) : V m c main_c = fun i => lit0 (S1x16640.rowMajor i) := by
  dsimp only [V, V0, hostOps0, List.flatten_cons, List.flatten_nil, List.append_nil, List.cons_append, List.nil_append]
  after_results
  rfl

/-- Where the windows' blocks lie at each point. -/
theorem win_index : ∀ t : Fin grid0.N, win0_1.index t = ![0, 0] ∧ win0_2.index t = ![0, (grid0.coords t 0).val] := by
  decide +kernel

/-- The block of column numbers is the whole row, at either point. -/
theorem iblk_col (c : Dev nD) (t : Fin cfg0.N) (q : Fin 16640) :
    (iblk m c 1 t : Vec F S1x16640 .i32) (ix2 0 q) = lit0t q.val := by
  have e : (iblk m c 1 t : Vec F S1x16640 .i32) (ix2 0 q) = V m c main_c (ix2 0 q) := by
    unfold iblk
    blk_ext [(win_index t).1]
  rw [e, V_main_c]
  show lit0t (S1x16640.rowMajor (ix2 0 q)).val = _
  congr 1
  rw [Shape.rowMajor_val_two]
  simp

/-- Which of the second tile's columns are copied: those inside the array. -/
theorem moved_second (r : Fin 64) (q : Fin 16640) (h : q.val < 16417) :
    win0_2.moved (grid0.coords t0_1) (ix2 r q) = true := by
  rw [Pipeline.Window.moved_iff]
  have e : ∀ a, win0_2.xsize (grid0.coords t0_1) a = ![64, 16417] a := by decide +kernel
  intro a
  rw [e a]
  fin_cases a
  · exact r.isLt
  · exact h

/-- The first tile lies wholly inside the array: nothing is left of what the buffer held before. -/
theorem fill_first {α : Type} (d d' : win0_2.block.Idx → α) (g) :
    win0_2.fill (grid0.coords t0_0) d g = win0_2.fill (grid0.coords t0_0) d' g := by
  have h : ∀ a, win0_2.clip (grid0.coords t0_0) a = none := by decide +kernel
  funext j
  have hm : win0_2.moved (grid0.coords t0_0) j = true :=
    (win0_2.moved_iff _ j).mpr fun a => by
      have := (j a).isLt
      unfold Pipeline.Window.xsize
      rw [h a]
      exact this
  unfold Pipeline.Window.fill
  rw [dif_pos hm, dif_pos hm]

/-- What the second tile adds does not depend on what its buffer holds past the array's end. -/
theorem accLast_fill (c : Dev nD) (x0 : Vec F S1x17 .i32) (d d' : win0_2.block.Idx → F .f32) (g)
    (x3 : Vec F S64x64 .f32) (x4 : Vec F S1x64 .f32) (a : Vec F S64x32 .f32) :
    accLast (grid0.coords t0_1) x0 (iblk m c 1 t0_1) (win0_2.fill (grid0.coords t0_1) d g) x3 x4 a
      = accLast (grid0.coords t0_1) x0 (iblk m c 1 t0_1) (win0_2.fill (grid0.coords t0_1) d' g) x3 x4 a := by
  rw [accLast_eq, accLast_eq]
  refine congrArg (fun X => addTile (k0_pay12 (grid0.coords t0_1) x0) (k0_pay13 (grid0.coords t0_1) x0) (k0_pay14 x3)
    (k0_pay15 x4) (iblk m c 1 t0_1) X a) ?_
  funext j
  obtain ⟨r, q, rfl⟩ : ∃ (r : Fin 64) (q : Fin 16640), j = ix2 r q := ⟨j 0, j 1, eq_ix2 j⟩
  rw [maskTile_apply, maskTile_apply]
  by_cases h : q.val < 16417
  · unfold Pipeline.Window.fill
    rw [dif_pos (moved_second r q h), dif_pos (moved_second r q h)]
  · rw [iblk_col, show q.val = 16417 + (q.val - 16417) by omega]
    have hl := lit0t_tail ⟨q.val - 16417, by have := q.isLt; omega⟩
    dsimp only at hl
    rw [hl, mask_off _ (by rw [BitVec.toNat_ofNat]; omega) (by rw [BitVec.toNat_ofNat]; omega)]
    rfl

end Cert.KernelIdeal.Hand
-- ==== Proof.KernelIdealRun.lean ====
module

public import proofs.«01_k».proof.Proof.KernelIdealTile
public import Idealize.ShloMosaic.Lib.Claim

/-! The run of the kernel: the proof data of its pipeline, the body's obligation at the two grid points, and what the
run leaves in memory. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ### What the buffers hold -/

/-- The columns of point `t`, the ones past the array's end at zero. -/
def tile (c : Dev nD) (t : Fin cfg0.N) : Vec F S64x16640 .f32 :=
  win0_2.fill (grid0.coords t) (fun _ => Scalar.ofBits .f32 0x00000000#32) (iblk m c 2 t)

/-- The accumulator between the two points. -/
def acc0 (c : Dev nD) : Vec F S64x32 .f32 :=
  accFirst (grid0.coords t0_0) (iblk m c 0 t0_0) (iblk m c 1 t0_0) (tile m c t0_0) (iblk m c 3 t0_0) (iblk m c 4 t0_0)

/-- The accumulator at the end. -/
def acc1 (c : Dev nD) : Vec F S64x32 .f32 :=
  accLast (grid0.coords t0_1) (iblk m c 0 t0_1) (iblk m c 1 t0_1) (tile m c t0_1) (iblk m c 3 t0_1) (iblk m c 4 t0_1) (acc0 m c)

/-- The first result's buffer at the end. -/
def outA (c : Dev nD) : Vec F S16x16 .f32 :=
  decodeOf (acc1 m c) (iblk m c 0 t0_1) (iblk m c 5 t0_1) (iblk m c 6 t0_1) (iblk m c 7 t0_1) (iblk m c 8 t0_1)

/-- The second result's buffer at the end. -/
def outB (c : Dev nD) : Vec F S1x16 .f32 :=
  valueOf (acc1 m c) (iblk m c 0 t0_1) (iblk m c 5 t0_1) (iblk m c 6 t0_1) (iblk m c 9 t0_1) (iblk m c 10 t0_1)

/-- The kernel's scratch accumulator. -/
abbrev scratch := Memref.whole cc0_scratch0

/-- What is kept from point to point: between the two points the accumulator at its contents there, otherwise the
    accumulator at anything. -/
def inv (c : Dev nD) : ℕ → sProp 𝕄
  | 1 => iprop(owns (c : Thread nD τ) scratch fullShare (acc0 m c) ∗ (∃ r, prngReg c r))
  | _ => Pipeline.ΦA spec0 c

/-- The proof data of the pipeline on core `c`: each input's buffer holds its block, the two results' buffers end at
    `outA` and `outB`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tile m c t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outA m c
    | ⟨12, _⟩ => outB m c
  Φ t := inv m c t.val
  q _ := fullShare
  owed _ := 0

theorem A_eq (c : Dev nD) (w : Fin cfg0.W) : (dats m 0 c).A w = V m c (Pipeline.arrRef spec0 w) := by
  dsimp only [dats]

/-- The scratch and the generator's register, as the launch hands them over. -/
theorem anything_eq (c : Dev nD) :
    (Pipeline.ΦA spec0 c : sProp 𝕄)
      = iprop((∃ d, owns (c : Thread nD τ) scratch fullShare d) ∗ (∃ r, prngReg c r)) := by
  unfold Pipeline.ΦA
  rw [scopedRest0_eq]
  simp only [scratch, owns_whole]

set_option maxHeartbeats 1000000 in
/-- The uncut inputs' buffers hold their blocks when the body starts. -/
theorem before_in (c : Dev nD) (t : Fin cfg0.N) : True
    ∧ (∀ d, (dats m 0 c).before 0 t d = iblk m c 0 t)
    ∧ (∀ d, (dats m 0 c).before 1 t d = iblk m c 1 t)
    ∧ (∀ d, (dats m 0 c).before 3 t d = iblk m c 3 t)
    ∧ (∀ d, (dats m 0 c).before 4 t d = iblk m c 4 t)
    ∧ (∀ d, (dats m 0 c).before 5 t d = iblk m c 5 t)
    ∧ (∀ d, (dats m 0 c).before 6 t d = iblk m c 6 t)
    ∧ (∀ d, (dats m 0 c).before 7 t d = iblk m c 7 t)
    ∧ (∀ d, (dats m 0 c).before 8 t d = iblk m c 8 t)
    ∧ (∀ d, (dats m 0 c).before 9 t d = iblk m c 9 t)
    ∧ (∀ d, (dats m 0 c).before 10 t d = iblk m c 10 t) :=
  ⟨trivial, before0_0_of m (dats m 0 c) (A_eq m c 0) (fun _ => by dsimp only [dats]) t,
    before0_1_of m (dats m 0 c) (A_eq m c 1) (fun _ => by dsimp only [dats]) t,
    before0_3_of m (dats m 0 c) (A_eq m c 3) (fun _ => by dsimp only [dats]) t,
    before0_4_of m (dats m 0 c) (A_eq m c 4) (fun _ => by dsimp only [dats]) t,
    before0_5_of m (dats m 0 c) (A_eq m c 5) (fun _ => by dsimp only [dats]) t,
    before0_6_of m (dats m 0 c) (A_eq m c 6) (fun _ => by dsimp only [dats]) t,
    before0_7_of m (dats m 0 c) (A_eq m c 7) (fun _ => by dsimp only [dats]) t,
    before0_8_of m (dats m 0 c) (A_eq m c 8) (fun _ => by dsimp only [dats]) t,
    before0_9_of m (dats m 0 c) (A_eq m c 9) (fun _ => by dsimp only [dats]) t,
    before0_10_of m (dats m 0 c) (A_eq m c 10) (fun _ => by dsimp only [dats]) t⟩

/-- The cut input's buffer holds its block inside the array, and anything past the array's end. -/
theorem before_tile (c : Dev nD) (t : Fin cfg0.N) (d) :
    (dats m 0 c).before 2 t d = win0_2.fill (grid0.coords t) d (iblk m c 2 t) := by
  unfold Dat.before
  rw [if_pos (fetch0_2 t)]
  rfl

/-- What the body has to leave in the uncut inputs' buffers: their blocks. -/
theorem leaves_in (c : Dev nD) (t : Fin cfg0.N) : True
    ∧ (dats m 0 c).leaves 0 t = owns (c : Thread nD τ) ((cfg0.win 0).stage (cfg0.slots t 0)) fullShare (iblk m c 0 t)
    ∧ (dats m 0 c).leaves 1 t = owns (c : Thread nD τ) ((cfg0.win 1).stage (cfg0.slots t 1)) fullShare (iblk m c 1 t)
    ∧ (dats m 0 c).leaves 3 t = owns (c : Thread nD τ) ((cfg0.win 3).stage (cfg0.slots t 3)) fullShare (iblk m c 3 t)
    ∧ (dats m 0 c).leaves 4 t = owns (c : Thread nD τ) ((cfg0.win 4).stage (cfg0.slots t 4)) fullShare (iblk m c 4 t)
    ∧ (dats m 0 c).leaves 5 t = owns (c : Thread nD τ) ((cfg0.win 5).stage (cfg0.slots t 5)) fullShare (iblk m c 5 t)
    ∧ (dats m 0 c).leaves 6 t = owns (c : Thread nD τ) ((cfg0.win 6).stage (cfg0.slots t 6)) fullShare (iblk m c 6 t)
    ∧ (dats m 0 c).leaves 7 t = owns (c : Thread nD τ) ((cfg0.win 7).stage (cfg0.slots t 7)) fullShare (iblk m c 7 t)
    ∧ (dats m 0 c).leaves 8 t = owns (c : Thread nD τ) ((cfg0.win 8).stage (cfg0.slots t 8)) fullShare (iblk m c 8 t)
    ∧ (dats m 0 c).leaves 9 t = owns (c : Thread nD τ) ((cfg0.win 9).stage (cfg0.slots t 9)) fullShare (iblk m c 9 t)
    ∧ (dats m 0 c).leaves 10 t = owns (c : Thread nD τ) ((cfg0.win 10).stage (cfg0.slots t 10)) fullShare (iblk m c 10 t) := by
  refine ⟨trivial, ?_, ?_, ?_, ?_, ?_, ?_, ?_, ?_, ?_, ?_⟩ <;> rfl

/-- What the body has to leave in the cut input's buffer: the block, inside the array. -/
theorem leaves_tile (c : Dev nD) (t : Fin cfg0.N) :
    (dats m 0 c).leaves 2 t = iprop(∃ d, owns (c : Thread nD τ) ((cfg0.win 2).stage (cfg0.slots t 2)) fullShare
      (win0_2.fill (grid0.coords t) d (win0_2.cut (grid0.coords t) (tile m c t)))) := rfl

theorem leaves_out_first (c : Dev nD) :
    (dats m 0 c).leaves 11 t0_0 = iprop(∃ d, owns (c : Thread nD τ) ((cfg0.win 11).stage (cfg0.slots t0_0 11)) fullShare ((dats m 0 c).before 11 t0_0 d))
    ∧ (dats m 0 c).leaves 12 t0_0 = iprop(∃ d, owns (c : Thread nD τ) ((cfg0.win 12).stage (cfg0.slots t0_0 12)) fullShare ((dats m 0 c).before 12 t0_0 d)) := by
  have i11 : cfg0.idle 11 (cfg0.grid.coords t0_0) = true := by decide +kernel
  have i12 : cfg0.idle 12 (cfg0.grid.coords t0_0) = true := by decide +kernel
  have f11 : (cfg0.win 11).flush t0_0 = false := by decide +kernel
  have f12 : (cfg0.win 12).flush t0_0 = false := by decide +kernel
  exact ⟨(dats m 0 c).leaves_idle 11 t0_0 i11 f11, (dats m 0 c).leaves_idle 12 t0_0 i12 f12⟩

theorem leaves_out_last (c : Dev nD) :
    (dats m 0 c).leaves 11 t0_1 = owns (c : Thread nD τ) ((cfg0.win 11).stage (cfg0.slots t0_1 11)) fullShare (outA m c)
    ∧ (dats m 0 c).leaves 12 t0_1 = owns (c : Thread nD τ) ((cfg0.win 12).stage (cfg0.slots t0_1 12)) fullShare (outB m c) := by
  have h11 : cfg0.idle 11 (cfg0.grid.coords t0_1) = false := by decide +kernel
  have h12 : cfg0.idle 12 (cfg0.grid.coords t0_1) = false := by decide +kernel
  constructor
  · unfold Dat.leaves; rw [h11]; rfl
  · unfold Dat.leaves; rw [h12]; rfl

/-! ### The body's obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) ((cfg0.win 0).stage (cfg0.slots t 0)) fullShare ((dats m 0 c).before 0 t d))
    ∗ (∃ d, owns (c : Thread nD τ) ((cfg0.win 1).stage (cfg0.slots t 1)) fullShare ((dats m 0 c).before 1 t d))
    ∗ (∃ d, owns (c : Thread nD τ) ((cfg0.win 2).stage (cfg0.slots t 2)) fullShare ((dats m 0 c).before 2 t d))
    ∗ (∃ d, owns (c : Thread nD τ) ((cfg0.win 3).stage (cfg0.slots t 3)) fullShare ((dats m 0 c).before 3 t d))
    ∗ (∃ d, owns (c : Thread nD τ) ((cfg0.win 4).stage (cfg0.slots t 4)) fullShare ((dats m 0 c).before 4 t d))
    ∗ (∃ d, owns (c : Thread nD τ) ((cfg0.win 5).stage (cfg0.slots t 5)) fullShare ((dats m 0 c).before 5 t d))
    ∗ (∃ d, owns (c : Thread nD τ) ((cfg0.win 6).stage (cfg0.slots t 6)) fullShare ((dats m 0 c).before 6 t d))
    ∗ (∃ d, owns (c : Thread nD τ) ((cfg0.win 7).stage (cfg0.slots t 7)) fullShare ((dats m 0 c).before 7 t d))
    ∗ (∃ d, owns (c : Thread nD τ) ((cfg0.win 8).stage (cfg0.slots t 8)) fullShare ((dats m 0 c).before 8 t d))
    ∗ (∃ d, owns (c : Thread nD τ) ((cfg0.win 9).stage (cfg0.slots t 9)) fullShare ((dats m 0 c).before 9 t d))
    ∗ (∃ d, owns (c : Thread nD τ) ((cfg0.win 10).stage (cfg0.slots t 10)) fullShare ((dats m 0 c).before 10 t d))
    ∗ (∃ d, owns (c : Thread nD τ) ((cfg0.win 11).stage (cfg0.slots t 11)) fullShare ((dats m 0 c).before 11 t d))
    ∗ (∃ d, owns (c : Thread nD τ) ((cfg0.win 12).stage (cfg0.slots t 12)) fullShare ((dats m 0 c).before 12 t d)))

/-- What it gives back. -/
def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t
    ∗ (dats m 0 c).leaves 6 t
    ∗ (dats m 0 c).leaves 7 t
    ∗ (dats m 0 c).leaves 8 t
    ∗ (dats m 0 c).leaves 9 t
    ∗ (dats m 0 c).leaves 10 t
    ∗ (dats m 0 c).leaves 11 t
    ∗ (dats m 0 c).leaves 12 t)

set_option maxHeartbeats 4000000 in
/-- The body at point 0. -/
theorem body_at_first (c : Dev nD) :
    bodyPre m c t0_0 ⊢ wp frame (wpE (defs₀ (F := F)) Variants.none c none) Set.univ (bodyAt0 t0_0) (fun _ => bodyPost m c t0_0) := by
  unfold bodyPre bodyPost bodyAt0
  obtain ⟨-, b0, b1, b3, b4, b5, b6, b7, b8, b9, b10⟩ := before_in m c t0_0
  obtain ⟨-, l0, l1, l3, l4, l5, l6, l7, l8, l9, l10⟩ := leaves_in m c t0_0
  obtain ⟨l11, l12⟩ := leaves_out_first m c
  obtain ⟨h0, h1, h2⟩ := branches_0
  simp only [b0, b1, b3, b4, b5, b6, b7, b8, b9, b10, before_tile]
  rw [l0, l1, l3, l4, l5, l6, l7, l8, l9, l10, l11, l12, leaves_tile,
    show (dats m 0 c).owesAt () t0_0.succ = (dats m 0 c).owesAt () t0_0.castSucc from rfl,
    show (dats m 0 c).Φ t0_0.castSucc = Pipeline.ΦA spec0 c from rfl, anything_eq,
    show (dats m 0 c).Φ t0_0.succ = iprop(owns (c : Thread nD τ) scratch fullShare (acc0 m c) ∗ (∃ r, prngReg c r)) from rfl]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (body_first c (grid0.coords t0_0) _ _ _ _ _ _ _ _ _ _ _ _ _ _ _ _ _ _ _ _ _ _ _ _ _ _ _ _ (iblk m c 0 t0_0) (iblk m c 1 t0_0)
    (win0_2.fill (grid0.coords t0_0) d2 (iblk m c 2 t0_0)) (iblk m c 3 t0_0) (iblk m c 4 t0_0) h0 h1 h2 Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, HS⟩
  isplitl [HS Hg]
  · isplitl [HS]
    · rw [show acc0 m c = accFirst (grid0.coords t0_0) (iblk m c 0 t0_0) (iblk m c 1 t0_0) (win0_2.fill (grid0.coords t0_0) d2 (iblk m c 2 t0_0))
        (iblk m c 3 t0_0) (iblk m c 4 t0_0) from by unfold acc0 tile; rw [fill_first _ d2]]
      iexact HS
    iexact Hg
  isplitl [Ho]; · iexact Ho
  isplitl [H0]; · iexact H0
  isplitl [H1]; · iexact H1
  isplitl [H2]
  · iexists d2
    rw [show win0_2.cut (grid0.coords t0_0) (tile m c t0_0) = iblk m c 2 t0_0 from win0_2.cut_fill _ _ _]
    iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists d11; iexact H11
  iexists d12; iexact H12

set_option maxHeartbeats 4000000 in
/-- The body at point 1. -/
theorem body_at_last (c : Dev nD) :
    bodyPre m c t0_1 ⊢ wp frame (wpE (defs₀ (F := F)) Variants.none c none) Set.univ (bodyAt0 t0_1) (fun _ => bodyPost m c t0_1) := by
  unfold bodyPre bodyPost bodyAt0
  obtain ⟨-, b0, b1, b3, b4, b5, b6, b7, b8, b9, b10⟩ := before_in m c t0_1
  obtain ⟨-, l0, l1, l3, l4, l5, l6, l7, l8, l9, l10⟩ := leaves_in m c t0_1
  obtain ⟨l11, l12⟩ := leaves_out_last m c
  obtain ⟨h0, h1, h2⟩ := branches_1
  simp only [b0, b1, b3, b4, b5, b6, b7, b8, b9, b10, before_tile]
  rw [l0, l1, l3, l4, l5, l6, l7, l8, l9, l10, l11, l12, leaves_tile,
    show (dats m 0 c).owesAt () t0_1.succ = (dats m 0 c).owesAt () t0_1.castSucc from rfl,
    show (dats m 0 c).Φ t0_1.succ = Pipeline.ΦA spec0 c from rfl, anything_eq,
    show (dats m 0 c).Φ t0_1.castSucc = iprop(owns (c : Thread nD τ) scratch fullShare (acc0 m c) ∗ (∃ r, prngReg c r)) from rfl]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  have hacc : acc1 m c = accLast (grid0.coords t0_1) (iblk m c 0 t0_1) (iblk m c 1 t0_1) (win0_2.fill (grid0.coords t0_1) d2 (iblk m c 2 t0_1))
      (iblk m c 3 t0_1) (iblk m c 4 t0_1) (acc0 m c) := by
    unfold acc1 tile
    exact accLast_fill m c _ _ d2 _ _ _ _
  unfold outA outB
  rw [hacc]
  iapply (body_last c (grid0.coords t0_1) _ _ _ _ _ _ _ _ _ _ _ _ _ _ _ _ _ _ _ _ _ _ _ _ _ _ _ _ (iblk m c 0 t0_1) (iblk m c 1 t0_1)
    (win0_2.fill (grid0.coords t0_1) d2 (iblk m c 2 t0_1)) (iblk m c 3 t0_1) (iblk m c 4 t0_1) (iblk m c 5 t0_1) (iblk m c 6 t0_1)
    (iblk m c 7 t0_1) (iblk m c 8 t0_1) (iblk m c 9 t0_1) (iblk m c 10 t0_1) (acc0 m c) h0 h1 h2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [HS]; · iexact HS
  iintro ⟨H0, H1, H2, H3, H4, H5, H6, H7, H8, H9, H10, H11, H12, HS⟩
  isplitl [HS Hg]
  · isplitl [HS]; · iexists _; iexact HS
    iexact Hg
  isplitl [Ho]; · iexact Ho
  isplitl [H0]; · iexact H0
  isplitl [H1]; · iexact H1
  isplitl [H2]
  · iexists d2
    rw [show win0_2.cut (grid0.coords t0_1) (tile m c t0_1) = iblk m c 2 t0_1 from win0_2.cut_fill _ _ _]
    iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem body_row (t : Fin cfg0.N) :
    defs₀ (F := F) .tc cfg0.body (cfg0.bodyArgs t (cfg0.slots t)) = bodyAt0 t := by
  unfold defs₀
  rw [Defs.onTc_tc]

/-- The body does at every point what the proof data say. -/
theorem body_obligation (c : Dev nD) :
    BodyObligationLoose (dats (F := F) m 0 c) (defs₀ (F := F)) Variants.none () Set.univ := fun t => by
  rw [bigSep_W0, bigSep_W0, body_row]
  rcases fin_N0 t with rfl | rfl
  · exact triple_restated (body_at_first m c) rfl .rfl fun _ => .rfl
  · exact triple_restated (body_at_last m c) rfl .rfl fun _ => .rfl

theorem inv_start (c : Dev nD) : Pipeline.ΦA spec0 c ⊢ (dats m 0 c).Φ 0 := .rfl

theorem inv_end (c : Dev nD) : (dats m 0 c).Φ (Fin.last cfg0.N) ⊢ Pipeline.ΦA spec0 c := .rfl

/-! ### The run -/

set_option backward.isDefEq.respectTransparency.types false in
set_option maxHeartbeats 800000 in
/-- Every weakly fair execution ends, with the pipeline's arrays as the proof data say, the other buffers as the host
    operations leave them, and every semaphore at zero. -/
theorem run_all : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := inv_start m) (hout := inv_end m)

/-- The same without the semaphores. -/
theorem run_memory : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_all m ρ)

/-- The frame: every execution ends, each argument holds at the end what it held at the start, and every semaphore
    counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
    ∧ r.2.sem = fun _ => 0) :=
  θ_run_and (frame_of m ρ (dats m) (A_eq m) (run_memory m ρ)) ((θ_run defs _ _).mono (fun _ h => h.2) (run_all m ρ))

end Cert.KernelIdeal.Hand

end
-- ==== Proof.KernelSame.lean ====
module

public import proofs.«01_k».proof.Proof.KernelIdealRun
public import proofs.«01_k».proof.Proof.Gen.Kernel

/-! The idealized kernel prints the same program as the kernel: no operation was replaced. So what is shown of one at
every float type holds of the other, and the kernel's frame is the idealized kernel's at bit patterns. -/

@[expose] public section

set_option maxRecDepth 65536

noncomputable section

namespace Cert.Kernel.Hand

open Idealize.ShloMosaic Idealize.ShloMosaic.TcCoe Idealize.SL.Sem

variable {F : FTy → Type} [FloatOps F]

/-- The two body tables are one. -/
theorem bodies_same : (Cert.Kernel.defs₀ (F := F)) = (Cert.KernelIdeal.defs₀ (F := F)) := by
  unfold Cert.Kernel.defs₀ Cert.KernelIdeal.defs₀
  refine congrArg Defs.onTc ?_
  funext a b
  match a, b with
  | 0, (t, s) => rfl

theorem defs_same : (Cert.Kernel.defs (F := F)) = (Cert.KernelIdeal.defs (F := F)) :=
  congrArg (Pipeline.defs Cert.KernelIdeal.pcfgs) bodies_same

set_option maxHeartbeats 4000000 in
/-- The two host programs are one. -/
theorem main_same : (Cert.Kernel.main (F := F)) = (Cert.KernelIdeal.main (F := F)) := rfl

/-- What the runs of one program satisfy, the runs of an equal one do. -/
theorem runs_same {defs' : type_of% (Cert.Kernel.defs (F := F))} {main' : type_of% (Cert.Kernel.main (F := F))}
    (hd : Cert.Kernel.defs = defs') (hm : Cert.Kernel.main = main') {s} {Q}
    (h : θ_run defs' (onTc (τ := Cert.Kernel.τ) main') s Q) : θ_run Cert.Kernel.defs (onTc (τ := Cert.Kernel.τ) Cert.Kernel.main) s Q := by
  subst hd; subst hm; exact h

open Cert.Kernel in
set_option maxHeartbeats 1000000 in
/-- The kernel's frame: every execution ends, each argument holds at the end what it held at the start, and every
    semaphore counter is zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
    ∧ r.2.sem = fun _ => 0) :=
  runs_same defs_same main_same (Cert.KernelIdeal.Hand.frame m ρ)

end Cert.Kernel.Hand

end
-- ==== Proof.KernelIdealBlocks.lean ====
module

public import proofs.«01_k».proof.Proof.KernelIdealRun

/-! What the kernel's blocks hold of the argument arrays, entry by entry. -/

@[expose] public section

set_option maxRecDepth 16384

noncomputable section

namespace Cert.KernelIdeal.Hand

open Cert.KernelIdeal.Gen
open Idealize.ShloMosaic Idealize.ShloMosaic.TcCoe Idealize.ShloMosaic.Tactic

variable {F : FTy → Type} [FloatOps F] (m : (ℓ : Loc nD τ sig) → Buf (Elt F) ℓ) (c : Dev nD)

/-- An argument array at launch. -/
abbrev arg (b : Ref sig .tc) := m ((c.tc : Thread nD τ).loc b)

/-! ### The blocks -/

/-- The windows that hold a whole array lie at its origin, at either point. -/
theorem whole_index : ∀ t : Fin grid0.N, win0_0.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0]
    ∧ win0_9.index t = ![0, 0] ∧ win0_10.index t = ![0, 0] := by
  decide +kernel

theorem coord_first : (grid0.coords t0_0 0).val = 0 := by decide +kernel
theorem coord_second : (grid0.coords t0_1 0).val = 1 := by decide +kernel

theorem blk_cu (t : Fin cfg0.N) (j : Fin 17) :
    (iblk m c 0 t : Vec F S1x17 .i32) (ix2 0 j) = (arg m c main_arg1 : Vec F S17 .i32) (ix1 j) := by
  have h : (iblk m c 0 t : Vec F S1x17 .i32) (ix2 0 j) = (V m c main_v0 : Vec F S1x17 .i32) (ix2 0 j) := by
    unfold iblk
    blk_ext [(whole_index t).1]
  rw [h]
  dsimp only [V, V0, hostOps0, List.flatten_cons, List.flatten_nil, List.append_nil, List.cons_append, List.nil_append]
  after_results
  pointwise

theorem blk_we (t : Fin cfg0.N) (k e : Fin 64) :
    (iblk m c 3 t : Vec F S64x64 .f32) (ix2 k e) = (arg m c main_arg3 : Vec F S64x64 .f32) (ix2 k e) := by
  have h : (iblk m c 3 t : Vec F S64x64 .f32) (ix2 k e) = (V m c main_arg3 : Vec F S64x64 .f32) (ix2 k e) := by
    unfold iblk
    blk_ext [(whole_index t).2.1]
  rw [h]
  rw [V_main_arg3]

theorem blk_be (t : Fin cfg0.N) (e : Fin 64) :
    (iblk m c 4 t : Vec F S1x64 .f32) (ix2 0 e) = (arg m c main_arg4 : Vec F S64 .f32) (ix1 e) := by
  have h : (iblk m c 4 t : Vec F S1x64 .f32) (ix2 0 e) = (V m c main_v2 : Vec F S1x64 .f32) (ix2 0 e) := by
    unfold iblk
    blk_ext [(whole_index t).2.2.1]
  rw [h]
  dsimp only [V, V0, hostOps0, List.flatten_cons, List.flatten_nil, List.append_nil, List.cons_append, List.nil_append]
  after_results
  pointwise

theorem blk_wf (t : Fin cfg0.N) (j h : Fin 128) :
    (iblk m c 5 t : Vec F S128x128 .f32) (ix2 j h) = (arg m c main_arg5 : Vec F S128x128 .f32) (ix2 j h) := by
  have h : (iblk m c 5 t : Vec F S128x128 .f32) (ix2 j h) = (V m c main_arg5 : Vec F S128x128 .f32) (ix2 j h) := by
    unfold iblk
    blk_ext [(whole_index t).2.2.2.1]
  rw [h]
  rw [V_main_arg5]

theorem blk_bf (t : Fin cfg0.N) (h : Fin 128) :
    (iblk m c 6 t : Vec F S1x128 .f32) (ix2 0 h) = (arg m c main_arg6 : Vec F S128 .f32) (ix1 h) := by
  have h : (iblk m c 6 t : Vec F S1x128 .f32) (ix2 0 h) = (V m c main_v3 : Vec F S1x128 .f32) (ix2 0 h) := by
    unfold iblk
    blk_ext [(whole_index t).2.2.2.2.1]
  rw [h]
  dsimp only [V, V0, hostOps0, List.flatten_cons, List.flatten_nil, List.append_nil, List.cons_append, List.nil_append]
  after_results
  pointwise

theorem blk_wd (t : Fin cfg0.N) (o : Fin 16) (h : Fin 128) :
    (iblk m c 7 t : Vec F S16x128 .f32) (ix2 o h) = (arg m c main_arg7 : Vec F S128x16 .f32) (ix2 h o) := by
  have h : (iblk m c 7 t : Vec F S16x128 .f32) (ix2 o h) = (V m c main_v4 : Vec F S16x128 .f32) (ix2 o h) := by
    unfold iblk
    blk_ext [(whole_index t).2.2.2.2.2.1]
  rw [h]
  dsimp only [V, V0, hostOps0, List.flatten_cons, List.flatten_nil, List.append_nil, List.cons_append, List.nil_append]
  after_results
  pointwise

theorem blk_bd (t : Fin cfg0.N) (o : Fin 16) :
    (iblk m c 8 t : Vec F S1x16 .f32) (ix2 0 o) = (arg m c main_arg8 : Vec F S16 .f32) (ix1 o) := by
  have h : (iblk m c 8 t : Vec F S1x16 .f32) (ix2 0 o) = (V m c main_v5 : Vec F S1x16 .f32) (ix2 0 o) := by
    unfold iblk
    blk_ext [(whole_index t).2.2.2.2.2.2.1]
  rw [h]
  dsimp only [V, V0, hostOps0, List.flatten_cons, List.flatten_nil, List.append_nil, List.cons_append, List.nil_append]
  after_results
  pointwise

theorem blk_wv (t : Fin cfg0.N) (h : Fin 128) :
    (iblk m c 9 t : Vec F S1x128 .f32) (ix2 0 h) = (arg m c main_arg9 : Vec F S128x1 .f32) (ix2 h 0) := by
  have h : (iblk m c 9 t : Vec F S1x128 .f32) (ix2 0 h) = (V m c main_v6 : Vec F S1x128 .f32) (ix2 0 h) := by
    unfold iblk
    blk_ext [(whole_index t).2.2.2.2.2.2.2.1]
  rw [h]
  dsimp only [V, V0, hostOps0, List.flatten_cons, List.flatten_nil, List.append_nil, List.cons_append, List.nil_append]
  after_results
  pointwise

theorem blk_bv (t : Fin cfg0.N)  :
    (iblk m c 10 t : Vec F S1x1 .f32) (ix2 0 0) = (arg m c main_arg10 : Vec F S1 .f32) (ix1 0) := by
  have h : (iblk m c 10 t : Vec F S1x1 .f32) (ix2 0 0) = (V m c main_v7 : Vec F S1x1 .f32) (ix2 0 0) := by
    unfold iblk
    blk_ext [(whole_index t).2.2.2.2.2.2.2.2]
  rw [h]
  dsimp only [V, V0, hostOps0, List.flatten_cons, List.flatten_nil, List.append_nil, List.cons_append, List.nil_append]
  after_results
  pointwise

/-- The rows as the kernel reads them, one row a column. -/
theorem V_columns (k : Fin 64) (t : Fin 33057) :
    (V m c main_v1 : Vec F S64x33057 .f32) (ix2 k t) = (arg m c main_arg0 : Vec F S33057x64 .f32) (ix2 t k) := by
  dsimp only [V, V0, hostOps0, List.flatten_cons, List.flatten_nil, List.append_nil, List.cons_append, List.nil_append]
  after_results
  pointwise

theorem tile_first (k : Fin 64) (q : Fin 16640) :
    tile m c t0_0 (ix2 k q) = (arg m c main_arg0 : Vec F S33057x64 .f32) (ix2 ⟨q.val, by omega⟩ k) := by
  have hm : win0_2.moved (grid0.coords t0_0) (ix2 k q) = true := by
    rw [Pipeline.Window.moved_iff]
    have e : ∀ a, win0_2.xsize (grid0.coords t0_0) a = ![64, 16640] a := by decide +kernel
    intro a
    rw [e a]
    fin_cases a
    · exact k.isLt
    · exact q.isLt
  rw [← V_columns]
  unfold tile Pipeline.Window.fill
  rw [dif_pos hm]
  unfold iblk
  blk_ext [(win_index t0_0).2]
  rw [coord_first]; omega

theorem tile_second (k : Fin 64) (q : Fin 16640) (h : q.val < 16417) :
    tile m c t0_1 (ix2 k q) = (arg m c main_arg0 : Vec F S33057x64 .f32) (ix2 ⟨16640 + q.val, by omega⟩ k) := by
  rw [← V_columns]
  unfold tile Pipeline.Window.fill
  rw [dif_pos (moved_second k q h)]
  unfold iblk
  blk_ext [(win_index t0_1).2]
  rw [coord_second]

end Cert.KernelIdeal.Hand
-- ==== Proof.KernelIdealColumns.lean ====
module

public import proofs.«01_k».proof.Proof.KernelIdealTile

/-! The constant row of column numbers: its entry at `q` is the number `q`. -/

@[expose] public section

noncomputable section

namespace Cert.KernelIdeal.Hand

open Cert.KernelIdeal.Gen
open Idealize.ShloMosaic

/-- Every entry of the row, read by 130 stretches of 128. -/
theorem lit0t_stretch : ∀ b : Fin 130, ∀ r : Fin 128, lit0t (128 * b.val + r.val) = BitVec.ofNat 32 (128 * b.val + r.val) := by
  decide +kernel

/-- The entry at `q` is `q`. -/
theorem lit0t_at (q : Fin 16640) : lit0t q.val = BitVec.ofNat 32 q.val := by
  have h := lit0t_stretch ⟨q.val / 128, by have := q.isLt; omega⟩ ⟨q.val % 128, by omega⟩
  dsimp only at h
  rwa [show 128 * (q.val / 128) + q.val % 128 = q.val by omega] at h

end Cert.KernelIdeal.Hand
-- ==== Proof.Spec.lean ====
module

public import Idealize.ShloMosaic.Lib.Pointwise

/-! The function that both programs compute, over the extended reals, entry by entry. -/

@[expose] public section

noncomputable section

namespace Cert.Spec

open Idealize.ShloMosaic Idealize.ShloMosaic.Tactic

/-- The arguments, read as numbers: the rows, each segment's first row and the row after its last, and the weights. -/
structure Data where
  x : Fin 33057 → Fin 64 → EReal
  start : Fin 16 → Fin 33057
  stop : Fin 16 → ℕ
  we : Fin 64 → Fin 64 → EReal
  be : Fin 64 → EReal
  wf : Fin 128 → Fin 128 → EReal
  bf : Fin 128 → EReal
  wd : Fin 128 → Fin 16 → EReal
  bd : Fin 16 → EReal
  wv : Fin 128 → EReal
  bv : EReal

/-- The numbers that the argument arrays stand for. -/
def dataOf (a0 : FVec Ideal ⟨2, ![33057, 64]⟩ .f32) (a1 : IVec ⟨1, ![17]⟩ 32) (a3 : FVec Ideal ⟨2, ![64, 64]⟩ .f32)
    (a4 : FVec Ideal ⟨1, ![64]⟩ .f32) (a5 : FVec Ideal ⟨2, ![128, 128]⟩ .f32) (a6 : FVec Ideal ⟨1, ![128]⟩ .f32)
    (a7 : FVec Ideal ⟨2, ![128, 16]⟩ .f32) (a8 : FVec Ideal ⟨1, ![16]⟩ .f32) (a9 : FVec Ideal ⟨2, ![128, 1]⟩ .f32)
    (a10 : FVec Ideal ⟨1, ![1]⟩ .f32) : Data where
  x t k := a0 (ix2 t k)
  start b := Fin.ofNat 33057 (a1 (ix1 ⟨b.val, by omega⟩)).toNat
  stop b := (a1 (ix1 ⟨1 + b.val, by omega⟩)).toNat
  we k e := a3 (ix2 k e)
  be e := a4 (ix1 e)
  wf j h := a5 (ix2 j h)
  bf h := a6 (ix1 h)
  wd h o := a7 (ix2 h o)
  bd o := a8 (ix1 o)
  wv h := a9 (ix2 h 0)
  bv := a10 (ix1 0)

/-- What the precondition says of the integers: each segment starts inside the array and ends there, and a row's
    segment number is `b` exactly when the row lies in segment `b`. -/
structure Ragged (a1 : IVec ⟨1, ![17]⟩ 32) (a2 : IVec ⟨1, ![33057]⟩ 32) : Prop where
  start_lt : ∀ b : Fin 16, (a1 (ix1 ⟨b.val, by omega⟩)).toNat < 33057
  stop_le : ∀ b : Fin 16, (a1 (ix1 ⟨1 + b.val, by omega⟩)).toNat ≤ 33057
  owned : ∀ (b : Fin 16) (t : Fin 33057), (a2 (ix1 t)).toInt = (b.val : ℤ) ↔
    (a1 (ix1 ⟨b.val, by omega⟩)).toNat ≤ t.val ∧ t.val < (a1 (ix1 ⟨1 + b.val, by omega⟩)).toNat

variable (D : Data)

/-- The encoding of row `t`. -/
def enc (t : Fin 33057) (e : Fin 64) : EReal := max ((∑ k, D.x t k * D.we k e) + D.be e) 0

/-- The sum of the encodings of the rows from `lo` to before `hi`. -/
def rowSum (lo hi : ℕ) (e : Fin 64) : EReal := ∑ t : Fin 33057, if lo ≤ t.val ∧ t.val < hi then enc D t e else 0

/-- The encoding of the segment's first row. -/
def agent (b : Fin 16) (e : Fin 64) : EReal := enc D (D.start b) e

/-- How many rows follow the first one in the segment. -/
def others (b : Fin 16) : ℤ := (D.stop b : ℤ) - ((D.start b).val : ℤ) - 1

/-- The mean encoding of the rows that follow the first one, or zero where there is none. -/
def neighbours (b : Fin 16) (e : Fin 64) : EReal :=
  if 0 < others D b then Ideal.div (rowSum D (D.start b).val (D.stop b) e - agent D b e) (((max (others D b) 1 : ℤ) : ℝ) : EReal) else 0

/-- The hidden layer. -/
def hidden (b : Fin 16) (h : Fin 128) : EReal :=
  max ((∑ k : Fin 64, agent D b k * D.wf ⟨k.val, by omega⟩ h) + (∑ k : Fin 64, neighbours D b k * D.wf ⟨64 + k.val, by omega⟩ h) + D.bf h) 0

/-- The first result. -/
def out (b o : Fin 16) : EReal := (∑ h, hidden D b h * D.wd h o) + D.bd o

/-- The second result. -/
def value (b : Fin 16) : EReal := (∑ h, hidden D b h * D.wv h) + D.bv

/-- One row's sum is its encoding. -/
theorem rowSum_one (t : Fin 33057) (e : Fin 64) : rowSum D t.val (t.val + 1) e = enc D t e := by
  unfold rowSum
  rw [Finset.sum_eq_single t]
  · exact if_pos ⟨le_refl _, Nat.lt_succ_self _⟩
  · intro s _ hs
    refine if_neg fun h => hs (Fin.ext ?_)
    omega
  · intro h; exact absurd (Finset.mem_univ t) h

/-- The rows taken in two tiles of 16640, the second overhanging the array by rows outside `lo … hi`. -/
theorem rowSum_tiles (lo hi : ℕ) (e : Fin 64) (G : ℕ → EReal)
    (hin : ∀ t : Fin 33057, G t.val = if lo ≤ t.val ∧ t.val < hi then enc D t e else 0) (hout : ∀ t, 33057 ≤ t → G t = 0) :
    (∑ q : Fin 16640, G q.val) + (∑ q : Fin 16640, G (16640 + q.val)) = rowSum D lo hi e := by
  unfold rowSum
  rw [← Finset.sum_congr rfl fun t _ => hin t]
  rw [Fin.sum_univ_eq_sum_range G 16640, Fin.sum_univ_eq_sum_range (fun q => G (16640 + q)) 16640, Fin.sum_univ_eq_sum_range G 33057,
    ← Finset.sum_range_add, show 16640 + 16640 = 33057 + 223 from rfl, Finset.sum_range_add,
    Finset.sum_eq_zero (s := Finset.range 223) fun q _ => hout _ (by omega), add_zero]

end Cert.Spec
-- ==== Proof.Inputs.lean ====
module

public import proofs.«01_k».proof.Proof.Spec
public import proofs.«01_k».proof.Proof.Gen.Pre_segments_match
public import Idealize.ShloMosaic.Lib.Affine

/-! The precondition, read as a statement on numbers. -/

@[expose] public section

noncomputable section

namespace Cert.Spec

open Idealize.ShloMosaic Idealize.ShloMosaic.Tactic
open Cert.Pre_segments_match Cert.Pre_segments_match.Gen

/-- A word between zero and 33057 as signed is so as unsigned. -/
theorem toNat_of_range (x : BitVec 32) (h0 : 0 ≤ x.toInt) : (x.toNat : ℤ) = x.toInt := by
  have := x.isLt
  rw [BitVec.toInt_eq_toNat_cond] at h0 ⊢
  split at h0 <;> split <;> omega

theorem toInt_small (n : ℕ) (h : n < 40000) : (BitVec.ofNat 32 n).toInt = (n : ℤ) := by
  rw [BitVec.toInt_eq_toNat_of_lt (by rw [BitVec.toNat_ofNat]; omega), BitVec.toNat_ofNat]
  omega

/-- The precondition on the segments. -/
theorem ragged_of (a0 : FVec Ideal S33057x64 .f32) (a1 : IVec S17 32) (a2 : IVec S33057 32) (a3 : FVec Ideal S64x64 .f32)
    (a4 : FVec Ideal S64 .f32) (a5 : FVec Ideal S128x128 .f32) (a6 : FVec Ideal S128 .f32) (a7 : FVec Ideal S128x16 .f32)
    (a8 : FVec Ideal S16 .f32) (a9 : FVec Ideal S128x1 .f32) (a10 : FVec Ideal S1 .f32)
    (ho : (Cert.Pre_segments_match.fn (F := Ideal) a0 a1 a2 a3 a4 a5 a6 a7 a8 a9 a10).1 = fun _ => 1#1)
    (hs : (Cert.Pre_segments_match.fn (F := Ideal) a0 a1 a2 a3 a4 a5 a6 a7 a8 a9 a10).2.1 = fun _ => 1#1)
    (he : (Cert.Pre_segments_match.fn (F := Ideal) a0 a1 a2 a3 a4 a5 a6 a7 a8 a9 a10).2.2 = fun _ => 1#1) : Ragged a1 a2 := by
  have hs' : ∀ b : Fin 16, 0 ≤ (a1 (ix1 ⟨b.val, by omega⟩)).toInt ∧ (a1 (ix1 ⟨b.val, by omega⟩)).toInt < 33057 := fun b => by
    have h := congrFun hs (ix1 b)
    revert h
    pointwise [fn, fn_part1]
    rw [IntOp.andi_eq_one, IntOp.cmpi_sge, IntOp.cmpi_slt]
    exact id
  have he' : ∀ b : Fin 16, 0 ≤ (a1 (ix1 ⟨1 + b.val, by omega⟩)).toInt ∧ (a1 (ix1 ⟨1 + b.val, by omega⟩)).toInt ≤ 33057 := fun b => by
    have h := congrFun he (ix1 b)
    revert h
    pointwise [fn, fn_part1]
    rw [IntOp.andi_eq_one, IntOp.cmpi_sge, IntOp.cmpi_sle]
    exact id
  refine ⟨fun b => ?_, fun b => ?_, fun b t => ?_⟩
  · have := toNat_of_range _ (hs' b).1
    have := (hs' b).2
    omega
  · have := toNat_of_range _ (he' b).1
    have := (he' b).2
    omega
  · have h := congrFun ho (ix2 b t)
    revert h
    pointwise [fn, fn_part1]
    have e1 := toNat_of_range _ (hs' b).1
    have e2 := toNat_of_range _ (he' b).1
    have hb := toInt_small b.val (by omega)
    have ht := toInt_small t.val (by omega)
    rw [IntOp.cmpi_eq]
    intro h
    have h' := (congrArg (· = 1#1) h).to_iff
    rw [IntOp.cmpi_eq, IntOp.andi_eq_one, IntOp.cmpi_sle, IntOp.cmpi_slt, ht, ← BitVec.toInt_inj, hb] at h'
    rw [h']
    omega

end Cert.Spec
-- ==== Proof.KernelIdealSum.lean ====
module

public import proofs.«01_k».proof.Proof.KernelIdealBlocks
public import proofs.«01_k».proof.Proof.KernelIdealColumns
public import proofs.«01_k».proof.Proof.Inputs

/-! What the kernel's accumulator holds at the end, entry by entry, at ideal floats: in its left half the segment
sums, in its right half the agents' encodings. -/

@[expose] public section

set_option maxRecDepth 16384

noncomputable section

namespace Cert.KernelIdeal.Hand

open Cert.KernelIdeal.Gen
open Idealize.ShloMosaic Idealize.ShloMosaic.TcCoe Idealize.ShloMosaic.Tactic

/-- One tile's sum, entry by entry. -/
theorem addTile_apply (lo hi : IVec S32x1 32) (w : FVec Ideal S64x64 .bf16) (b : FVec Ideal S64x1 .bf16)
    (x1 : Vec Ideal S1x16640 .i32) (x : FVec Ideal S64x16640 .f32) (a : Vec Ideal S64x32 .f32) (e : Fin 64) (p : Fin 32) :
    addTile lo hi w b x1 x a (ix2 e p) = a (ix2 e p) + ∑ q : Fin 16640,
      max ((∑ k : Fin 64, w (ix2 k e) * x (ix2 k q)) + b (ix2 e 0)) 0
        * FloatOps.sitofp (F := Ideal) .f32 (BitVec.setWidth 32
            (IntOp.andi (IntOp.cmpi .sge (x1 (ix2 0 q)) (lo (ix2 p 0))) (IntOp.cmpi .slt (x1 (ix2 0 q)) (hi (ix2 p 0))))) := by
  pointwise [addTile]

/-- A comparison's outcome as a float. -/
theorem float_of_bit (c : BitVec 1) : FloatOps.sitofp (F := Ideal) .f32 (BitVec.setWidth 32 c) = if c = 1#1 then (1 : EReal) else 0 := by
  show (((BitVec.setWidth 32 c).toInt : ℝ) : EReal) = _
  rcases BitVec.eq_zero_or_eq_one c with rfl | rfl
  · rw [show (BitVec.setWidth 32 0#1).toInt = 0 by decide, if_neg (by decide)]; simp
  · rw [show (BitVec.setWidth 32 1#1).toInt = 1 by decide, if_pos rfl]; simp

/-- The lower bounds of the 32 columns: the segments' first rows, twice. -/
theorem lo_apply (i : grid0.Coords) (x0 : Vec Ideal S1x17 .i32) (p : Fin 32) :
    k0_pay12 i x0 (ix2 p 0) = IntOp.subi (if h : p.val < 16 then x0 (ix2 0 ⟨p.val, by omega⟩) else x0 (ix2 0 ⟨p.val - 16, by omega⟩))
      (Scalar.muli (BitVec.ofNat 32 (i 0).val) 16640#32) := by
  pointwise [k0_pay12, k0_pay11, k0_pay10]

/-- The upper bounds: the segments' ends, then the rows after their first rows. -/
theorem hi_apply (i : grid0.Coords) (x0 : Vec Ideal S1x17 .i32) (p : Fin 32) :
    k0_pay13 i x0 (ix2 p 0) = IntOp.subi (if h : p.val < 16 then x0 (ix2 0 ⟨1 + p.val, by omega⟩)
        else IntOp.addi (x0 (ix2 0 ⟨p.val - 16, by omega⟩)) 1#32)
      (Scalar.muli (BitVec.ofNat 32 (i 0).val) 16640#32) := by
  pointwise [k0_pay13, k0_pay11, k0_pay10]

theorem w_apply (x : Vec Ideal S64x64 .f32) (k e : Fin 64) : k0_pay14 x (ix2 k e) = x (ix2 k e) := by
  pointwise [k0_pay14]
theorem b_apply (x : Vec Ideal S1x64 .f32) (e : Fin 64) : k0_pay15 x (ix2 e 0) = x (ix2 0 e) := by
  pointwise [k0_pay15]
theorem zero_apply (e : Fin 64) (p : Fin 32) : (k0_pay7 : FVec Ideal S64x32 .f32) (ix2 e p) = (0 : EReal) := by
  pointwise [k0_pay7]

/-- A bound less the tile's first row, as a number. -/
theorem bound_toInt (x : BitVec 32) (hx : x.toNat ≤ 33058) (i : ℕ) (hi : i < 2) :
    (IntOp.subi x (Scalar.muli (BitVec.ofNat 32 i) 16640#32)).toInt = (x.toNat : ℤ) - 16640 * i := by
  have hp : (Scalar.muli (BitVec.ofNat 32 i) 16640#32).toInt = 16640 * i := by
    have : i = 0 ∨ i = 1 := by omega
    rcases this with rfl | rfl <;> decide
  have hxi : x.toInt = x.toNat := BitVec.toInt_eq_toNat_of_lt (by omega)
  show (x - Scalar.muli (BitVec.ofNat 32 i) 16640#32).toInt = _
  rw [BitVec.toInt_sub, hp, hxi]
  unfold Int.bmod
  simp only
  split <;> omega

/-- Column `q` of tile `i` is counted exactly when its row lies between the bounds. -/
theorem counted (L H : BitVec 32) (hL : L.toNat ≤ 33058) (hH : H.toNat ≤ 33058) (i : ℕ) (hi : i < 2) (q : Fin 16640) :
    IntOp.andi (IntOp.cmpi .sge (BitVec.ofNat 32 q.val) (IntOp.subi L (Scalar.muli (BitVec.ofNat 32 i) 16640#32)))
      (IntOp.cmpi .slt (BitVec.ofNat 32 q.val) (IntOp.subi H (Scalar.muli (BitVec.ofNat 32 i) 16640#32))) = 1#1
      ↔ L.toNat ≤ 16640 * i + q.val ∧ 16640 * i + q.val < H.toNat := by
  rw [IntOp.andi_eq_one, IntOp.cmpi_sge, IntOp.cmpi_slt, bound_toInt L hL i hi, bound_toInt H hH i hi, Cert.Spec.toInt_small _ (by omega)]
  omega

/-- The second tile's mask lets every column through whose row the array has. -/
theorem mask_on (q : Fin 16640) (h : q.val < 16417) :
    IntOp.cmpi .slt (IntOp.addi (BitVec.ofNat 32 q.val) (Scalar.muli (BitVec.ofNat 32 1) 16640#32)) 33057#32 = 1#1 := by
  rw [IntOp.cmpi_slt]
  have e : (IntOp.addi (BitVec.ofNat 32 q.val) (Scalar.muli (BitVec.ofNat 32 1) 16640#32)) = BitVec.ofNat 32 (q.val + 16640) := by
    rw [show Scalar.muli (BitVec.ofNat 32 1) 16640#32 = BitVec.ofNat 32 16640 by decide, BitVec.ofNat_add]
    rfl
  rw [e, Cert.Spec.toInt_small _ (by omega), show (33057#32).toInt = 33057 by decide]
  omega

variable (m : (ℓ : Loc nD τ sig) → Buf (Elt Ideal) ℓ) (c : Dev nD)

/-- The numbers that the argument arrays stand for. -/
abbrev data : Cert.Spec.Data :=
  Cert.Spec.dataOf (arg m c main_arg0) (arg m c main_arg1) (arg m c main_arg3) (arg m c main_arg4) (arg m c main_arg5)
    (arg m c main_arg6) (arg m c main_arg7) (arg m c main_arg8) (arg m c main_arg9) (arg m c main_arg10)

/-- A row's encoding, out of the argument arrays. -/
theorem enc_data (t : Fin 33057) (e : Fin 64) :
    Cert.Spec.enc (data m c) t e = max (@HAdd.hAdd EReal EReal EReal _ (∑ k : Fin 64, @HMul.hMul EReal EReal EReal _
      ((arg m c main_arg0 : Vec Ideal S33057x64 .f32) (ix2 t k)) ((arg m c main_arg3 : Vec Ideal S64x64 .f32) (ix2 k e)))
      ((arg m c main_arg4 : Vec Ideal S64 .f32) (ix1 e))) 0 := rfl

/-- What row `t` contributes to a column with bounds `lo` and `hi`; no row, nothing. -/
def share (lo hi : ℕ) (e : Fin 64) (t : ℕ) : EReal :=
  if h : t < 33057 then (if lo ≤ t ∧ t < hi then Cert.Spec.enc (data m c) ⟨t, h⟩ e else 0) else 0

/-- A term of a tile's sum: a row's encoding if the row is counted. -/
theorem term_eq (lo hi t : ℕ) (hh : hi ≤ 33057) (e : Fin 64) (X : EReal) (bit : BitVec 1) (hb : bit = 1#1 ↔ lo ≤ t ∧ t < hi)
    (hX : ∀ h : t < 33057, X = Cert.Spec.enc (data m c) ⟨t, h⟩ e) :
    X * FloatOps.sitofp (F := Ideal) .f32 (BitVec.setWidth 32 bit) = share m c lo hi e t := by
  rw [float_of_bit]
  unfold share
  by_cases h : lo ≤ t ∧ t < hi
  · rw [if_pos (hb.mpr h), mul_one, dif_pos (by omega : t < 33057), if_pos h, hX]
  · rw [if_neg (fun k => h (hb.mp k)), mul_zero]
    split <;> first | rfl | rw [if_neg h]

/-- Column `p` of the accumulator at the end: the sum of the encodings of the rows between its bounds. -/
theorem acc1_apply (e : Fin 64) (p : Fin 32) (L H : BitVec 32) (hL : L.toNat ≤ 33057) (hH : H.toNat ≤ 33057)
    (hlo : ∀ (i : grid0.Coords) (t : Fin cfg0.N), k0_pay12 i (iblk m c 0 t) (ix2 p 0) = IntOp.subi L (Scalar.muli (BitVec.ofNat 32 (i 0).val) 16640#32))
    (hhi : ∀ (i : grid0.Coords) (t : Fin cfg0.N), k0_pay13 i (iblk m c 0 t) (ix2 p 0) = IntOp.subi H (Scalar.muli (BitVec.ofNat 32 (i 0).val) 16640#32)) :
    acc1 m c (ix2 e p) = Cert.Spec.rowSum (data m c) L.toNat H.toNat e := by
  have h0 : acc0 m c (ix2 e p) = ∑ q : Fin 16640, share m c L.toNat H.toNat e q.val := by
    unfold acc0
    rw [accFirst_eq, addTile_apply, zero_apply, zero_add]
    refine Finset.sum_congr rfl fun q _ => ?_
    rw [hlo, hhi, iblk_col, lit0t_at, coord_first]
    refine term_eq m c _ _ _ hH e _ _ ((counted L H (by omega) (by omega) 0 (by omega) q).trans (by omega)) fun h => ?_
    unfold Cert.Spec.enc
    refine congrArg₂ (fun x y => max (x + y) 0) ?_ ?_
    · refine Finset.sum_congr rfl fun k _ => ?_
      rw [mul_comm, w_apply, blk_we]
      refine congrArg (· * _) ?_
      refine Eq.trans ?_ (tile_first m c k q)
      pointwise
    · rw [b_apply, blk_be]; rfl
  unfold acc1
  rw [accLast_eq, addTile_apply, h0]
  rw [← Cert.Spec.rowSum_tiles (data m c) L.toNat H.toNat e (share m c L.toNat H.toNat e)]
  · refine congrArg (fun S => (∑ q : Fin 16640, share m c L.toNat H.toNat e q.val) + S) ?_
    refine Finset.sum_congr rfl fun q _ => ?_
    rw [hlo, hhi, iblk_col, lit0t_at, coord_second]
    have hb := counted L H (by omega) (by omega) 1 (by omega) q
    rw [Nat.mul_one] at hb
    refine term_eq m c L.toNat H.toNat (16640 + q.val) hH e _ _ hb fun h => ?_
    rw [enc_data]
    refine congrArg₂ (fun x y => max (x + y) 0) ?_ ?_
    · refine Finset.sum_congr rfl fun k _ => ?_
      rw [mul_comm, w_apply, blk_we]
      rw [maskTile_apply, iblk_col, lit0t_at, coord_second, WordCmp.select_of_eq_one (mask_on q (by omega)), tile_second m c k q (by omega)]
    · rw [b_apply, blk_be]
  · intro t
    unfold share
    rw [dif_pos t.isLt]
  · intro t ht
    unfold share
    rw [dif_neg (by omega)]

variable (hr : Cert.Spec.Ragged (arg m c main_arg1) (arg m c main_arg2))
include hr

theorem start_val (b : Fin 16) : ((data m c).start b).val = ((arg m c main_arg1 : Vec Ideal S17 .i32) (ix1 ⟨b.val, by omega⟩)).toNat := by
  show (_ : ℕ) % 33057 = _
  exact Nat.mod_eq_of_lt (hr.start_lt b)

/-- The left half: the segment sums. -/
theorem acc1_left (e : Fin 64) (b : Fin 16) :
    acc1 m c (ix2 e ⟨b.val, by omega⟩) = Cert.Spec.rowSum (data m c) ((data m c).start b).val ((data m c).stop b) e := by
  rw [start_val m c hr b]
  refine acc1_apply m c e _ _ _ (le_of_lt (hr.start_lt b)) (hr.stop_le b) (fun i t => ?_) (fun i t => ?_)
  · rw [lo_apply, dif_pos b.isLt, blk_cu]
  · rw [hi_apply, dif_pos b.isLt, blk_cu]

/-- The right half: the agents' encodings. -/
theorem acc1_right (e : Fin 64) (b : Fin 16) :
    acc1 m c (ix2 e ⟨16 + b.val, by omega⟩) = Cert.Spec.agent (data m c) b e := by
  have hs := hr.start_lt b
  unfold Cert.Spec.agent
  rw [← Cert.Spec.rowSum_one, start_val m c hr b]
  have e1 : (IntOp.addi ((arg m c main_arg1 : Vec Ideal S17 .i32) (ix1 ⟨b.val, by omega⟩)) 1#32).toNat
      = ((arg m c main_arg1 : Vec Ideal S17 .i32) (ix1 ⟨b.val, by omega⟩)).toNat + 1 := by
    show (_ + 1#32).toNat = _
    rw [BitVec.toNat_add]
    show (_ + 1) % _ = _
    omega
  rw [← e1]
  have hk : (⟨16 + b.val - 16, by omega⟩ : Fin 17) = ⟨b.val, by omega⟩ := Fin.ext (by show 16 + b.val - 16 = b.val; omega)
  refine acc1_apply m c e _ _ _ (le_of_lt hs) (by rw [e1]; omega) (fun i t => ?_) (fun i t => ?_)
  · rw [lo_apply, dif_neg (by show ¬ 16 + b.val < 16; omega), blk_cu, hk]
  · rw [hi_apply, dif_neg (by show ¬ 16 + b.val < 16; omega), blk_cu, hk]

end Cert.KernelIdeal.Hand
-- ==== Proof.Count.lean ====
module

public import proofs.«01_k».proof.Proof.Inputs

/-! How many rows follow a segment's first row: the programs' 32-bit word and the number. -/

@[expose] public section

noncomputable section

namespace Cert.Spec

open Idealize.ShloMosaic Idealize.ShloMosaic.Tactic

variable (a0 : FVec Ideal ⟨2, ![33057, 64]⟩ .f32) (a1 : IVec ⟨1, ![17]⟩ 32) (a2 : IVec ⟨1, ![33057]⟩ 32) (a3 : FVec Ideal ⟨2, ![64, 64]⟩ .f32)
  (a4 : FVec Ideal ⟨1, ![64]⟩ .f32) (a5 : FVec Ideal ⟨2, ![128, 128]⟩ .f32) (a6 : FVec Ideal ⟨1, ![128]⟩ .f32)
  (a7 : FVec Ideal ⟨2, ![128, 16]⟩ .f32) (a8 : FVec Ideal ⟨1, ![16]⟩ .f32) (a9 : FVec Ideal ⟨2, ![128, 1]⟩ .f32)
  (a10 : FVec Ideal ⟨1, ![1]⟩ .f32)

/-- A segment's first row is the word read as a number. -/
theorem dataOf_start (hr : Ragged a1 a2) (b : Fin 16) :
    ((dataOf a0 a1 a3 a4 a5 a6 a7 a8 a9 a10).start b).val = (a1 (ix1 ⟨b.val, by omega⟩)).toNat :=
  Nat.mod_eq_of_lt (hr.start_lt b)

/-- The word for the number of the other rows, read as a signed number. -/
theorem others_word (hr : Ragged a1 a2) (b : Fin 16) :
    (IntOp.subi (IntOp.subi (a1 (ix1 ⟨1 + b.val, by omega⟩)) (a1 (ix1 ⟨b.val, by omega⟩))) 1#32).toInt
      = others (dataOf a0 a1 a3 a4 a5 a6 a7 a8 a9 a10) b := by
  have h0 := hr.start_lt b
  have h1 := hr.stop_le b
  have e0 : (a1 (ix1 ⟨b.val, by omega⟩)).toInt = (a1 (ix1 ⟨b.val, by omega⟩)).toNat := BitVec.toInt_eq_toNat_of_lt (by omega)
  have e1 : (a1 (ix1 ⟨1 + b.val, by omega⟩)).toInt = (a1 (ix1 ⟨1 + b.val, by omega⟩)).toNat := BitVec.toInt_eq_toNat_of_lt (by omega)
  unfold others
  rw [dataOf_start a0 a1 a2 a3 a4 a5 a6 a7 a8 a9 a10 hr b]
  show ((_ - _ : BitVec 32) - 1#32).toInt = ((a1 (ix1 ⟨1 + b.val, by omega⟩)).toNat : ℤ) - _ - 1
  rw [BitVec.toInt_sub, BitVec.toInt_sub, e0, e1, show (1#32).toInt = 1 by decide]
  unfold Int.bmod
  simp only
  split <;> split <;> omega

/-- Whole numbers compare as their reals do. -/
theorem zero_lt_coe (n : ℤ) : ((0 : EReal) < ((n : ℝ) : EReal)) ↔ 0 < n := by
  rw [show (0 : EReal) = ((0 : ℝ) : EReal) from rfl, EReal.coe_lt_coe_iff, Int.cast_pos]

/-- The larger of a whole number and one, taken before or after the step to the reals. -/
theorem max_coe_one (n : ℤ) : max ((n : ℝ) : EReal) 1 = (((max n 1 : ℤ) : ℝ) : EReal) := by
  rw [show (1 : EReal) = ((1 : ℝ) : EReal) from rfl, Int.cast_max, Int.cast_one]
  exact (EReal.coe_strictMono.monotone.map_max).symm

end Cert.Spec

end
-- ==== Proof.KernelIdealOut.lean ====
module

public import proofs.«01_k».proof.Proof.KernelIdealSum
public import proofs.«01_k».proof.Proof.Count

/-! The two result blocks of the kernel, entry by entry, at ideal floats: the function of the specification. -/

@[expose] public section

set_option maxRecDepth 16384

noncomputable section

namespace Cert.KernelIdeal.Hand

open Cert.KernelIdeal.Gen
open Idealize.ShloMosaic Idealize.ShloMosaic.TcCoe Idealize.ShloMosaic.Tactic

theorem segOf_apply (a : Vec Ideal S64x32 .f32) (e : Fin 64) (b : Fin 16) : segOf a (ix2 e b) = a (ix2 e ⟨b.val, by omega⟩) := by
  pointwise [segOf]
theorem agentOf_apply (a : Vec Ideal S64x32 .f32) (e : Fin 64) (b : Fin 16) : agentOf a (ix2 e b) = a (ix2 e ⟨16 + b.val, by omega⟩) := by
  pointwise [agentOf]
theorem countOf_apply (x0 : Vec Ideal S1x17 .i32) (b : Fin 16) : countOf x0 (ix2 0 b)
    = FloatOps.sitofp (F := Ideal) .f32 (IntOp.subi (IntOp.subi (x0 (ix2 0 ⟨1 + b.val, by omega⟩)) (x0 (ix2 0 ⟨b.val, by omega⟩))) 1#32) := by
  pointwise [countOf, k0_pay3, k0_pay8, k0_pay9]
theorem less_apply (s a : Vec Ideal S64x16 .f32) (e : Fin 64) (b : Fin 16) :
    k0_pay2 s a (ix2 e b) = @HSub.hSub EReal EReal EReal _ (s (ix2 e b)) (a (ix2 e b)) := by
  pointwise [k0_pay2]

/-- The hidden layer of the kernel, entry by entry. -/
theorem layer_apply (a s : FVec Ideal S64x16 .f32) (n : FVec Ideal S1x16 .f32) (x5 : Vec Ideal S128x128 .f32) (x6 : Vec Ideal S1x128 .f32)
    (h : Fin 128) (b : Fin 16) :
    k0_pay4 a s n (Scalar.ofBits .f32 0x3F800000#32) x5 x6 (ix2 h b) = max ((∑ k : Fin 64, x5 (ix2 ⟨k.val, by omega⟩ h) * a (ix2 k b))
      + (∑ k : Fin 64, x5 (ix2 ⟨64 + k.val, by omega⟩ h) * if 0 < n (ix2 0 b) then Ideal.div (s (ix2 k b)) (max (n (ix2 0 b)) 1) else 0)
      + x6 (ix2 0 h)) 0 := by
  pointwise [k0_pay4]

theorem decodeOf_apply (a : Vec Ideal S64x32 .f32) (x0 : Vec Ideal S1x17 .i32) (x5 : Vec Ideal S128x128 .f32) (x6 : Vec Ideal S1x128 .f32)
    (x7 : Vec Ideal S16x128 .f32) (x8 : Vec Ideal S1x16 .f32) (b o : Fin 16) :
    decodeOf a x0 x5 x6 x7 x8 (ix2 b o) = @HAdd.hAdd EReal EReal EReal _ (∑ h : Fin 128, @HMul.hMul EReal EReal EReal _
      (k0_pay4 (agentOf a) (k0_pay2 (segOf a) (agentOf a)) (countOf x0) (Scalar.ofBits .f32 0x3F800000#32) x5 x6 (ix2 h b)) (x7 (ix2 o h)))
      (x8 (ix2 0 o)) := by
  pointwise [decodeOf, k0_pay5]

theorem valueOf_apply (a : Vec Ideal S64x32 .f32) (x0 : Vec Ideal S1x17 .i32) (x5 : Vec Ideal S128x128 .f32) (x6 : Vec Ideal S1x128 .f32)
    (x9 : Vec Ideal S1x128 .f32) (x10 : Vec Ideal S1x1 .f32) (b : Fin 16) :
    valueOf a x0 x5 x6 x9 x10 (ix2 0 b) = @HAdd.hAdd EReal EReal EReal _ (∑ h : Fin 128, @HMul.hMul EReal EReal EReal _
      (x9 (ix2 0 h)) (k0_pay4 (agentOf a) (k0_pay2 (segOf a) (agentOf a)) (countOf x0) (Scalar.ofBits .f32 0x3F800000#32) x5 x6 (ix2 h b)))
      (x10 (ix2 0 0)) := by
  pointwise [valueOf, k0_pay6]

variable (m : (ℓ : Loc nD τ sig) → Buf (Elt Ideal) ℓ) (c : Dev nD)
  (hr : Cert.Spec.Ragged (arg m c main_arg1) (arg m c main_arg2))
include hr

/-- The count of the other rows, as a float. -/
theorem count_val (t : Fin cfg0.N) (b : Fin 16) : countOf (iblk m c 0 t) (ix2 0 b) = ((Cert.Spec.others (data m c) b : ℝ) : EReal) := by
  rw [countOf_apply, blk_cu, blk_cu]
  exact congrArg (fun n : ℤ => ((n : ℝ) : EReal)) (Cert.Spec.others_word _ (arg m c main_arg1) (arg m c main_arg2) _ _ _ _ _ _ _ _ hr b)

/-- The mean of the other rows. -/
theorem mean_val (t : Fin cfg0.N) (k : Fin 64) (b : Fin 16) :
    (if 0 < countOf (iblk m c 0 t) (ix2 0 b) then Ideal.div (k0_pay2 (segOf (acc1 m c)) (agentOf (acc1 m c)) (ix2 k b))
      (max (countOf (iblk m c 0 t) (ix2 0 b)) 1) else (0 : EReal)) = Cert.Spec.neighbours (data m c) b k := by
  rw [count_val m c hr, less_apply, segOf_apply, agentOf_apply, acc1_left m c hr, acc1_right m c hr, Cert.Spec.max_coe_one]
  unfold Cert.Spec.neighbours
  by_cases h : 0 < Cert.Spec.others (data m c) b
  · rw [if_pos h, if_pos ((Cert.Spec.zero_lt_coe _).mpr h)]
  · rw [if_neg h, if_neg fun k => h ((Cert.Spec.zero_lt_coe _).mp k)]

/-- The hidden layer of the kernel is that of the specification. -/
theorem layer_val (t : Fin cfg0.N) (h : Fin 128) (b : Fin 16) :
    k0_pay4 (agentOf (acc1 m c)) (k0_pay2 (segOf (acc1 m c)) (agentOf (acc1 m c))) (countOf (iblk m c 0 t)) (Scalar.ofBits .f32 0x3F800000#32)
      (iblk m c 5 t) (iblk m c 6 t) (ix2 h b) = Cert.Spec.hidden (data m c) b h := by
  rw [layer_apply]
  unfold Cert.Spec.hidden
  rw [blk_bf]
  refine congrArg₂ (fun x y => max (x + y) 0) (congrArg₂ (fun x y => x + y) ?_ ?_) rfl
  · refine Finset.sum_congr rfl fun k _ => ?_
    rw [agentOf_apply, acc1_right m c hr, blk_wf, mul_comm]; rfl
  · refine Finset.sum_congr rfl fun k _ => ?_
    rw [mean_val m c hr, blk_wf, mul_comm]; rfl

/-- The first result block. -/
theorem outA_val (b o : Fin 16) : outA m c (ix2 b o) = Cert.Spec.out (data m c) b o := by
  unfold outA
  rw [decodeOf_apply, blk_bd]
  unfold Cert.Spec.out
  refine congrArg₂ (fun x y => x + y) (Finset.sum_congr rfl fun h _ => ?_) rfl
  rw [layer_val m c hr, blk_wd]; rfl

/-- The second result block, a row. -/
theorem outB_val (b : Fin 16) : outB m c (ix2 0 b) = Cert.Spec.value (data m c) b := by
  unfold outB
  rw [valueOf_apply, blk_bv]
  unfold Cert.Spec.value
  refine congrArg₂ (fun x y => x + y) (Finset.sum_congr rfl fun h _ => ?_) rfl
  rw [layer_val m c hr, blk_wv, mul_comm]; rfl

end Cert.KernelIdeal.Hand

end
-- ==== Proof.KernelIdealAnswer.lean ====
module

public import proofs.«01_k».proof.Proof.KernelIdealOut

/-! What the kernel's run leaves in its two result arrays, at ideal floats. -/

@[expose] public section

set_option maxRecDepth 16384

noncomputable section

namespace Cert.KernelIdeal.Hand

open Cert.KernelIdeal.Gen
open Idealize.ShloMosaic Idealize.ShloMosaic.TcCoe Idealize.ShloMosaic.Tactic Idealize.SL.Sem

variable (m : (ℓ : Loc nD τ sig) → Buf (Elt Ideal) ℓ) (ρ : Dev nD → PrngReg) (c : Dev nD)

/-- The first result array is the block that the last point leaves. -/
theorem arr_first : (dats m 0 c).arrAt 11 cfg0.N = outA m c := by
  refine (dats m 0 c).arrAt_eq_of_after_last 11 t0_1 (by decide +kernel) _ fun j => ?_
  blk_simp
  rfl

/-- The second result's row is the block that the last point leaves. -/
theorem arr_second : (dats m 0 c).arrAt 12 cfg0.N = outB m c := by
  refine (dats m 0 c).arrAt_eq_of_after_last 12 t0_1 (by decide +kernel) _ fun j => ?_
  blk_simp
  rfl

/-- The windows' arrays are different buffers. -/
theorem arr_inj : Function.Injective (Pipeline.arrRef spec0) := by decide +kernel

/-- The line after the kernel turns the row into a column. -/
theorem tail_second : Pipeline.afterTail₀ cfgs (dats m) 0 (V0 m) [hostOps1] c main_v9
    = transpose S16x1 [1, 0] (outB m c) transposes_S1x16_S16x1_1_0 := by
  unfold Pipeline.afterTail₀
  dsimp only [hostOps1, List.flatten_cons, List.flatten_nil, List.append_nil, List.cons_append, List.nil_append]
  after_results
  rw [← arr_second]
  exact congrArg (fun v => transpose S16x1 [1, 0] v transposes_S1x16_S16x1_1_0)
    (Pipeline.withArrays_arr spec0 arr_inj c (V0 m c) (fun w => (dats m 0 c).arrAt w cfg0.N) 12)

/-- The first result as the specification gives it. -/
def firstResult (c : Dev nD) : Vec Ideal S16x16 .f32 := fun j => Cert.Spec.out (data m c) (j 0) (j 1)
/-- The second result as the specification gives it. -/
def secondResult (c : Dev nD) : Vec Ideal S16x1 .f32 := fun j => Cert.Spec.value (data m c) (j 0)

/-- Every execution ends with the two results of the specification. -/
theorem results (hr : ∀ c, Cert.Spec.Ragged (arg m c main_arg1) (arg m c main_arg2)) :
    θ_run defs (onTc (τ := τ) (main (F := Ideal))) ⟨m, fun _ => 0, ρ⟩ (fun r => ∀ c : Dev nD,
      r.2.mem ((c.tc : Thread nD τ).loc main_v8_0) = firstResult m c ∧ r.2.mem ((c.tc : Thread nD τ).loc main_v9) = secondResult m c) := by
  refine (θ_run defs _ _).mono (fun r h c => ⟨?_, ?_⟩) (run_memory m ρ)
  · refine ((h c).1 11).trans ((arr_first m c).trans ?_)
    funext j
    obtain ⟨b, o, rfl⟩ : ∃ (b : Fin 16) (o : Fin 16), j = ix2 b o := ⟨j 0, j 1, eq_ix2 j⟩
    exact outA_val m c (hr c) b o
  · refine ((h c).2 main_v9 (Pipeline.mem_restRefs_of main_v9 (by decide) (by decide))).trans ((tail_second m c).trans ?_)
    funext j
    obtain ⟨b, o, rfl⟩ : ∃ (b : Fin 16) (o : Fin 1), j = ix2 b o := ⟨j 0, j 1, eq_ix2 j⟩
    obtain rfl : o = 0 := Subsingleton.elim _ _
    refine Eq.trans ?_ (outB_val m c (hr c) b)
    pointwise

end Cert.KernelIdeal.Hand

end
-- ==== Proof.Scatter.lean ====
module

public import Idealize.ShloMosaic.Lib.Routing.Ops
public import Idealize.ShloMosaic.Lib.Pointwise

/-! A scatter-add of rows: each row of the update is added to the operand's row that its index word names. -/

@[expose] public section

noncomputable section

namespace Cert.Spec

open Idealize.ShloMosaic Idealize.ShloMosaic.Tactic

variable {M N B : ℕ} (d : ScatterDims ⟨2, ![M, B]⟩ ⟨2, ![N, 1]⟩ ⟨2, ![N, B]⟩)

/-- Entry `(t, k)` of the update lands at row `b`, column `e` exactly when row `t`'s index word is `b` and `k` is `e`. -/
theorem row_lands (hu : d.updateWindowDims = [1]) (hi : d.insertedWindowDims = [0]) (hs : d.scatterDimsToOperandDims = [0])
    (hv : d.indexVectorDim = 1) (idx : IVec ⟨2, ![N, 1]⟩ 32) (t : Fin N) (k : Fin B) (b : Fin M) (e : Fin B) :
    d.resultIdx? (ix2 t k) idx = some (ix2 b e) ↔ (idx (ix2 t 0)).toInt = (b.val : ℤ) ∧ k = e := by
  have m0 : (0 : Fin 2) ∈ d.scatterDimsToOperandDims := by rw [hs]; exact List.mem_singleton.2 rfl
  have m1 : (1 : Fin 2) ∉ d.scatterDimsToOperandDims := by
    rw [hs]; show (1 : Fin 2) ∉ ([0] : List (Fin 2)); decide
  have kept : d.sKept = [1] := by
    unfold ScatterDims.sKept
    rw [hi]; rfl
  have w0 : d.window (ix2 t k) 0 = 0 := by
    unfold ScatterDims.window
    rw [dif_neg (by rw [kept]; show (0 : Fin 2) ∉ ([1] : List (Fin 2)); decide)]
  have second : ∀ a : Fin 2, a = 1 → (ix2 t k a).val = k.val := by rintro _ rfl; rfl
  have only1 : ∀ a ∈ d.updateWindowDims, a = (1 : Fin 2) := by
    rw [hu]
    show ∀ a ∈ ([1] : List (Fin 2)), a = 1
    decide
  have w1 : d.window (ix2 t k) 1 = k.val := by
    unfold ScatterDims.window
    rw [dif_pos (by rw [kept]; exact List.mem_singleton.2 rfl)]
    exact second _ (only1 _ (List.getElem_mem _))
  have s1 : d.start (ix2 t k) idx 1 = 0 := by
    unfold ScatterDims.start
    rw [dif_neg m1]
  have only : ∀ a ∈ d.uScatter, a = (0 : Fin 2) := by
    unfold ScatterDims.uScatter
    rw [hu]
    show ∀ a ∈ ([0] : List (Fin 2)), a = 0
    decide
  have first : ∀ a : Fin 2, a = 0 → (ix2 t k a).val = t.val := by rintro _ rfl; rfl
  have s0 : d.start (ix2 t k) idx 0 = (idx (ix2 t 0)).toInt := by
    unfold ScatterDims.start
    rw [dif_pos m0]
    refine congrArg (fun j => (idx j).toInt) (funext fun a => Fin.ext ?_)
    fin_cases a
    · unfold ScatterDims.siIdx
      rw [dif_neg (by rw [hv]; exact Nat.zero_ne_one)]
      unfold ScatterDims.siCoord
      simp only [Fin.val_cast]
      exact first _ (only _ (List.getElem_mem _))
    · unfold ScatterDims.siIdx
      rw [dif_pos (by rw [hv])]
      show List.idxOf (0 : Fin 2) d.scatterDimsToOperandDims = 0
      rw [hs]; exact List.idxOf_cons_self
  have hb := b.isLt
  have hk := k.isLt
  have z0 : (⟨2, ![M, B]⟩ : Shape).size 0 = M := rfl
  have z1 : (⟨2, ![M, B]⟩ : Shape).size 1 = B := rfl
  unfold ScatterDims.resultIdx?
  constructor
  · intro h
    split at h
    · next inside =>
      have i0 := inside 0
      have c0 := congrArg Fin.val (congrFun (Option.some.inj h) 0)
      have c1 := congrArg Fin.val (congrFun (Option.some.inj h) 1)
      change (d.start (ix2 t k) idx 0 + (d.window (ix2 t k) 0 : ℤ)).toNat = b.val at c0
      change (d.start (ix2 t k) idx 1 + (d.window (ix2 t k) 1 : ℤ)).toNat = e.val at c1
      rw [s0, w0] at c0 i0
      rw [s1, w1] at c1
      exact ⟨by omega, Fin.ext (by omega)⟩
    · cases h
  · rintro ⟨h, rfl⟩
    rw [dif_pos fun a => by
      fin_cases a
      · show 0 ≤ d.start (ix2 t k) idx 0 + (d.window (ix2 t k) 0 : ℤ) ∧ d.start (ix2 t k) idx 0 + (d.window (ix2 t k) 0 : ℤ) < (M : ℤ)
        rw [s0, w0]; omega
      · show 0 ≤ d.start (ix2 t k) idx 1 + (d.window (ix2 t k) 1 : ℤ) ∧ d.start (ix2 t k) idx 1 + (d.window (ix2 t k) 1 : ℤ) < (B : ℤ)
        rw [s1, w1]; omega]
    refine congrArg some (funext fun a => Fin.ext ?_)
    fin_cases a
    · show (d.start (ix2 t k) idx 0 + (d.window (ix2 t k) 0 : ℤ)).toNat = b.val
      rw [s0, w0]; omega
    · show (d.start (ix2 t k) idx 1 + (d.window (ix2 t k) 1 : ℤ)).toNat = k.val
      rw [s1, w1]; omega

/-- The scatter-add of rows, entry by entry. -/
theorem scatterAdd_rows (hu : d.updateWindowDims = [1]) (hi : d.insertedWindowDims = [0]) (hs : d.scatterDimsToOperandDims = [0])
    (hv : d.indexVectorDim = 1) (x : FVec Ideal ⟨2, ![M, B]⟩ .f32) (idx : IVec ⟨2, ![N, 1]⟩ 32) (upd : FVec Ideal ⟨2, ![N, B]⟩ .f32)
    (b : Fin M) (e : Fin B) :
    Ideal.hostScatterAdd d x idx upd (ix2 b e)
      = @HAdd.hAdd EReal EReal EReal _ (x (ix2 b e)) (∑ t : Fin N, if (idx (ix2 t 0)).toInt = (b.val : ℤ) then (upd (ix2 t e) : EReal) else 0) := by
  show x (ix2 b e) + (∑ j ∈ Finset.univ.filter (fun j => d.resultIdx? j idx = some (ix2 b e)), upd j) = _
  refine congrArg (fun S => x (ix2 b e) + S) ?_
  rw [Finset.sum_filter, sum_idx2]
  refine Finset.sum_congr rfl fun t _ => ?_
  rw [Finset.sum_eq_single e]
  · exact if_congr ((row_lands d hu hi hs hv idx t e b e).trans (and_iff_left rfl)) rfl rfl
  · intro k _ hk
    exact if_neg fun h => hk ((row_lands d hu hi hs hv idx t k b e).mp h).2
  · intro h; exact absurd (Finset.mem_univ e) h

end Cert.Spec

end
-- ==== Proof.ReferenceValue.lean ====
module

public import proofs.«01_k».proof.Proof.Gen.ReferenceIdeal.Run
public import proofs.«01_k».proof.Proof.Count
public import proofs.«01_k».proof.Proof.Scatter
public import Idealize.ShloMosaic.Lib.WordCmp

/-! The reference's two results, entry by entry, at ideal floats: the function of the specification. -/

@[expose] public section

set_option maxRecDepth 16384

noncomputable section

namespace Cert.ReferenceIdeal.Hand

open Cert.ReferenceIdeal.Gen Cert.ReferenceIdeal.Value
open Idealize.ShloMosaic Idealize.ShloMosaic.TcCoe Idealize.ShloMosaic.Tactic

/-! ### The reference's arrays, named -/

variable (a0 : FVec Ideal S33057x64 .f32) (a1 : IVec S17 32) (a2 : IVec S33057 32) (a3 : FVec Ideal S64x64 .f32)
  (a4 : FVec Ideal S64 .f32) (a5 : FVec Ideal S128x128 .f32) (a6 : FVec Ideal S128 .f32) (a7 : FVec Ideal S128x16 .f32)
  (a8 : FVec Ideal S16 .f32) (a9 : FVec Ideal S128x1 .f32) (a10 : FVec Ideal S1 .f32)

/-- The encodings of all rows. -/
def encArr : FVec Ideal S33057x64 .f32 :=
  maximumf (addf (Host.dotGeneral dot_S33057x64_S64x64_S33057x64_1_0_0_1_n_n none a0 a3)
    (broadcastInDim S33057x64 ![0, 1] bcast_S1x64_S33057x64_0_1 (broadcastInDim S1x64 ![1] bcast_S64_S1x64_1 a4)))
    (broadcastInDim S33057x64 ![] bcast_S_S33057x64 (constant S_ .f32 0x00000000#32))

/-- The segments' first rows, a negative number counted from the array's end. -/
def firstArr : IVec S16x1 32 :=
  broadcastInDim S16x1 ![0] bcast_S16_S16x1_0 (select
    (cmpi .slt (extractStridedSlice S16 ![0] a1 slices_S17_S16_0) (broadcastInDim S16 ![] bcast_S_S16 (constantI S_ 32 0#32)))
    (addi (extractStridedSlice S16 ![0] a1 slices_S17_S16_0) (broadcastInDim S16 ![] bcast_S_S16 (constantI S_ 32 33057#32)))
    (extractStridedSlice S16 ![0] a1 slices_S17_S16_0))

/-- Which of them lie inside the array. -/
def insideArr : IVec S16 1 :=
  Host.reduce IntOp.andi (andi (cmpi .sge (firstArr a1) (broadcastInDim S16x1 ![] bcast_S_S16x1 (constantI S_ 32 0#32)))
    (cmpi .sle (firstArr a1) (broadcastInDim S16x1 ![0, 1] bcast_S1x1_S16x1_0_1 (broadcastInDim S1x1 ![1] bcast_S1_S1x1_1 (constantI S1 32 33056#32)))))
    (constantI S_ 1 1#1) reducesTo_S16x1_S16_d1 h_S_

/-- The agents' encodings. -/
def agentArr : FVec Ideal S16x64 .f32 :=
  select (broadcastInDim S16x64 ![0] bcast_S16_S16x64_0 (insideArr a1))
    (Host.gather gather_S33057x64_S16x1_S16x64_1_0_n_n_0_1_164 (encArr a0 a3 a4) (firstArr a1))
    (broadcastInDim S16x64 ![] bcast_S_S16x64 (constant S_ .f32 0x7FC00000#32))

/-- The number of the other rows of each segment. -/
def othersArr : IVec S16 32 :=
  subi (subi (extractStridedSlice S16 ![1] a1 slices_S17_S16_1) (extractStridedSlice S16 ![0] a1 slices_S17_S16_0))
    (broadcastInDim S16 ![] bcast_S_S16 (constantI S_ 32 1#32))

/-- The sums of the segments' encodings. -/
def sumArr : FVec Ideal S16x64 .f32 :=
  Host.scatterAdd scatter_S16x64_S33057x1_S33057x64_1_0_0_1 (broadcastInDim S16x64 ![] bcast_S_S16x64 (constant S_ .f32 0x00000000#32))
    (broadcastInDim S33057x1 ![0] bcast_S33057_S33057x1_0 a2) (encArr a0 a3 a4)

/-- The mean encodings of the other rows, zero where there is none. -/
def meanArr : FVec Ideal S16x64 .f32 :=
  select (broadcastInDim S16x64 ![0, 1] bcast_S16x1_S16x64_0_1 (broadcastInDim S16x1 ![0] bcast_S16_S16x1_0
      (cmpi .sgt (othersArr a1) (broadcastInDim S16 ![] bcast_S_S16 (constantI S_ 32 0#32)))))
    (Host.divf (subf (sumArr a0 a2 a3 a4) (agentArr a0 a1 a3 a4)) (broadcastInDim S16x64 ![0, 1] bcast_S16x1_S16x64_0_1
      (broadcastInDim S16x1 ![0] bcast_S16_S16x1_0 (sitofp .f32 (maxsi (othersArr a1) (broadcastInDim S16 ![] bcast_S_S16 (constantI S_ 32 1#32)))))))
    (broadcastInDim S16x64 ![] bcast_S_S16x64 (constant S_ .f32 0x00000000#32))

/-- The hidden layer of two arrays set side by side. -/
def hiddenArr (p q : FVec Ideal S16x64 .f32) : FVec Ideal S16x128 .f32 :=
  maximumf (addf (Host.dotGeneral dot_S16x128_S128x128_S16x128_1_0_0_1_n_n none
      (concatenate S16x128 1 [⟨S16x64, p⟩, ⟨S16x64, q⟩] concatenates_S16x64_S16x64_S16x128_d1) a5)
    (broadcastInDim S16x128 ![0, 1] bcast_S1x128_S16x128_0_1 (broadcastInDim S1x128 ![1] bcast_S128_S1x128_1 a6)))
    (broadcastInDim S16x128 ![] bcast_S_S16x128 (constant S_ .f32 0x00000000#32))

/-- The first result off a hidden layer. -/
def outArr (h : FVec Ideal S16x128 .f32) : FVec Ideal S16x16 .f32 :=
  addf (Host.dotGeneral dot_S16x128_S128x16_S16x16_1_0_0_1_n_n none h a7)
    (broadcastInDim S16x16 ![0, 1] bcast_S1x16_S16x16_0_1 (broadcastInDim S1x16 ![1] bcast_S16_S1x16_1 a8))

/-- The second result off a hidden layer. -/
def valueArr (h : FVec Ideal S16x128 .f32) : FVec Ideal S16x1 .f32 :=
  addf (Host.dotGeneral dot_S16x128_S128x1_S16x1_1_0_0_1_n_n none h a9)
    (broadcastInDim S16x1 ![0, 1] bcast_S1x1_S16x1_0_1 (broadcastInDim S1x1 ![1] bcast_S1_S1x1_1 a10))

/-! ### Their entries -/

theorem encArr_apply (t : Fin 33057) (e : Fin 64) : encArr a0 a3 a4 (ix2 t e) = Cert.Spec.enc (Cert.Spec.dataOf a0 a1 a3 a4 a5 a6 a7 a8 a9 a10) t e := by
  pointwise [encArr]
  rfl

theorem othersArr_apply (b : Fin 16) : othersArr a1 (ix1 b)
    = IntOp.subi (IntOp.subi (a1 (ix1 ⟨1 + b.val, by omega⟩)) (a1 (ix1 ⟨b.val, by omega⟩))) 1#32 := by
  pointwise [othersArr]

theorem hiddenArr_apply (p q : FVec Ideal S16x64 .f32) (b : Fin 16) (h : Fin 128) :
    hiddenArr a5 a6 p q (ix2 b h) = max ((∑ k : Fin 64, p (ix2 b k) * a5 (ix2 ⟨k.val, by omega⟩ h))
      + (∑ k : Fin 64, q (ix2 b k) * a5 (ix2 ⟨64 + k.val, by omega⟩ h)) + a6 (ix1 h)) 0 := by
  pointwise [hiddenArr]

theorem outArr_apply (h : FVec Ideal S16x128 .f32) (b o : Fin 16) :
    outArr a7 a8 h (ix2 b o) = @HAdd.hAdd EReal EReal EReal _ (∑ k : Fin 128, @HMul.hMul EReal EReal EReal _ (h (ix2 b k)) (a7 (ix2 k o))) (a8 (ix1 o)) := by
  pointwise [outArr]

theorem valueArr_apply (h : FVec Ideal S16x128 .f32) (b : Fin 16) :
    valueArr a9 a10 h (ix2 b 0) = @HAdd.hAdd EReal EReal EReal _ (∑ k : Fin 128, @HMul.hMul EReal EReal EReal _ (h (ix2 b k)) (a9 (ix2 k 0))) (a10 (ix1 0)) := by
  pointwise [valueArr]

theorem meanArr_apply (b : Fin 16) (k : Fin 64) : meanArr a0 a1 a2 a3 a4 (ix2 b k)
    = Scalar.select (IntOp.cmpi .sgt (othersArr a1 (ix1 b)) 0#32)
        (Ideal.div (@HSub.hSub EReal EReal EReal _ (sumArr a0 a2 a3 a4 (ix2 b k)) (agentArr a0 a1 a3 a4 (ix2 b k)))
          (FloatOps.sitofp (F := Ideal) .f32 (IntOp.maxsi (othersArr a1 (ix1 b)) 1#32))) (0 : EReal) := by
  pointwise [meanArr]

theorem agentArr_apply (b : Fin 16) (k : Fin 64) : agentArr a0 a1 a3 a4 (ix2 b k)
    = Scalar.select (insideArr a1 (ix1 b))
        (Host.gather gather_S33057x64_S16x1_S16x64_1_0_n_n_0_1_164 (encArr a0 a3 a4) (firstArr a1) (ix2 b k)) (Ideal.ofBits .f32 0x7FC00000#32) := by
  pointwise [agentArr]

variable (hr : Cert.Spec.Ragged a1 a2)
include hr

/-- No first row is negative, so each is taken as it stands. -/
theorem firstArr_apply (b : Fin 16) : firstArr a1 (ix2 b 0) = a1 (ix1 ⟨b.val, by omega⟩) := by
  have h := hr.start_lt b
  pointwise [firstArr]
  refine if_neg fun k => ?_
  have k' : (a1 (ix1 ⟨b.val, by omega⟩)).toInt < (0#32).toInt := IntOp.cmpi_slt.mp k
  rw [BitVec.toInt_eq_toNat_of_lt (by omega)] at k'
  have : (0#32).toInt = 0 := by decide
  omega

/-- And each lies inside the array. -/
theorem insideArr_apply (b : Fin 16) : insideArr a1 (ix1 b) = 1#1 := by
  have h := hr.start_lt b
  unfold insideArr
  pointwise
  rw [Finset.univ_unique, Finset.fold_singleton]
  refine IntOp.andi_eq_one.mpr ⟨IntOp.andi_eq_one.mpr ⟨IntOp.cmpi_sge.mpr ?_, IntOp.cmpi_sle.mpr ?_⟩, rfl⟩
  all_goals
    show _ ≤ _
    rw [show (default : Fin 1) = 0 from rfl, firstArr_apply a1 a2 hr b, BitVec.toInt_eq_toNat_of_lt (x := a1 _) (by omega)]
  · rw [show (0#32).toInt = 0 by decide]; omega
  · rw [show (33056#32).toInt = 33056 by decide]; omega

/-- The agents' encodings. -/
theorem agentArr_val (b : Fin 16) (k : Fin 64) : agentArr a0 a1 a3 a4 (ix2 b k) = Cert.Spec.agent (Cert.Spec.dataOf a0 a1 a3 a4 a5 a6 a7 a8 a9 a10) b k := by
  rw [agentArr_apply, WordCmp.select_of_eq_one (insideArr_apply a1 a2 hr b)]
  have hs := Cert.Spec.dataOf_start a0 a1 a2 a3 a4 a5 a6 a7 a8 a9 a10 hr b
  refine (Routing.gather_row gather_S33057x64_S16x1_S16x64_1_0_n_n_0_1_164 rfl rfl rfl rfl rfl (encArr a0 a3 a4) (firstArr a1) b k
    (Cert.Spec.Data.start (Cert.Spec.dataOf a0 a1 a3 a4 a5 a6 a7 a8 a9 a10) b) ?_ (by decide)).trans (encArr_apply a0 a1 a3 a4 a5 a6 a7 a8 a9 a10 _ k)
  rw [hs]
  refine (firstArr_apply a1 a2 hr b).trans ?_
  rw [BitVec.ofNat_toNat, BitVec.setWidth_eq]

/-- The segments' sums: a row's segment number says which segment it lies in. -/
theorem sumArr_val (b : Fin 16) (k : Fin 64) :
    sumArr a0 a2 a3 a4 (ix2 b k) = Cert.Spec.rowSum (Cert.Spec.dataOf a0 a1 a3 a4 a5 a6 a7 a8 a9 a10) (Cert.Spec.Data.start (Cert.Spec.dataOf a0 a1 a3 a4 a5 a6 a7 a8 a9 a10) b).val (Cert.Spec.Data.stop (Cert.Spec.dataOf a0 a1 a3 a4 a5 a6 a7 a8 a9 a10) b) k := by
  have hs := Cert.Spec.dataOf_start a0 a1 a2 a3 a4 a5 a6 a7 a8 a9 a10 hr b
  refine (Cert.Spec.scatterAdd_rows scatter_S16x64_S33057x1_S33057x64_1_0_0_1 rfl rfl rfl rfl _ _ (encArr a0 a3 a4) b k).trans ?_
  rw [hs]
  unfold Cert.Spec.rowSum
  refine Eq.trans (congrArg₂ (fun x y => x + y) (show _ = (0 : EReal) by pointwise) (Finset.sum_congr rfl fun t _ => ?_)) (zero_add _)
  refine if_congr ?_ (encArr_apply a0 a1 a3 a4 a5 a6 a7 a8 a9 a10 t k) rfl
  refine Iff.trans ?_ (hr.owned b t)
  pointwise

/-- The means. -/
theorem meanArr_val (b : Fin 16) (k : Fin 64) : meanArr a0 a1 a2 a3 a4 (ix2 b k) = Cert.Spec.neighbours (Cert.Spec.dataOf a0 a1 a3 a4 a5 a6 a7 a8 a9 a10) b k := by
  have hn : (othersArr a1 (ix1 b)).toInt = Cert.Spec.others (Cert.Spec.dataOf a0 a1 a3 a4 a5 a6 a7 a8 a9 a10) b := by
    rw [othersArr_apply]
    exact Cert.Spec.others_word a0 a1 a2 a3 a4 a5 a6 a7 a8 a9 a10 hr b
  have hm : FloatOps.sitofp (F := Ideal) .f32 (IntOp.maxsi (othersArr a1 (ix1 b)) 1#32) = (((max (Cert.Spec.others (Cert.Spec.dataOf a0 a1 a3 a4 a5 a6 a7 a8 a9 a10) b) 1 : ℤ) : ℝ) : EReal) := by
    rw [← hn]
    refine congrArg (fun n : ℤ => ((n : ℝ) : EReal)) ?_
    show (if (1#32).slt (othersArr a1 (ix1 b)) then othersArr a1 (ix1 b) else 1#32).toInt = _
    have e : (1#32).slt (othersArr a1 (ix1 b)) = true ↔ 1 < (othersArr a1 (ix1 b)).toInt := BitVec.slt_iff_toInt_lt
    split
    · next h => exact (max_eq_left (le_of_lt (e.mp h))).symm
    · next h => exact (max_eq_right (not_lt.mp fun k => h (e.mpr k))).symm
  rw [meanArr_apply, sumArr_val a0 a1 a2 a3 a4 a5 a6 a7 a8 a9 a10 hr, agentArr_val a0 a1 a2 a3 a4 a5 a6 a7 a8 a9 a10 hr, hm]
  unfold Cert.Spec.neighbours
  refine if_congr ?_ rfl rfl
  refine IntOp.cmpi_sgt.trans ?_
  rw [hn]
  exact Iff.rfl

/-- The hidden layer. -/
theorem hiddenArr_val (b : Fin 16) (h : Fin 128) :
    hiddenArr a5 a6 (agentArr a0 a1 a3 a4) (meanArr a0 a1 a2 a3 a4) (ix2 b h) = Cert.Spec.hidden (Cert.Spec.dataOf a0 a1 a3 a4 a5 a6 a7 a8 a9 a10) b h := by
  rw [hiddenArr_apply]
  unfold Cert.Spec.hidden
  refine congrArg₂ (fun x y => max (x + y) 0) (congrArg₂ (fun x y => x + y) ?_ ?_) rfl
  · refine Finset.sum_congr rfl fun k _ => ?_
    rw [agentArr_val a0 a1 a2 a3 a4 a5 a6 a7 a8 a9 a10 hr]
    rfl
  · refine Finset.sum_congr rfl fun k _ => ?_
    rw [meanArr_val a0 a1 a2 a3 a4 a5 a6 a7 a8 a9 a10 hr]
    rfl

/-- The first result. -/
theorem outArr_val (b o : Fin 16) :
    outArr a7 a8 (hiddenArr a5 a6 (agentArr a0 a1 a3 a4) (meanArr a0 a1 a2 a3 a4)) (ix2 b o) = Cert.Spec.out (Cert.Spec.dataOf a0 a1 a3 a4 a5 a6 a7 a8 a9 a10) b o := by
  rw [outArr_apply]
  unfold Cert.Spec.out
  refine congrArg₂ (fun x y => x + y) (Finset.sum_congr rfl fun h _ => ?_) rfl
  rw [hiddenArr_val a0 a1 a2 a3 a4 a5 a6 a7 a8 a9 a10 hr]
  rfl

/-- The second result. -/
theorem valueArr_val (b : Fin 16) :
    valueArr a9 a10 (hiddenArr a5 a6 (agentArr a0 a1 a3 a4) (meanArr a0 a1 a2 a3 a4)) (ix2 b 0) = Cert.Spec.value (Cert.Spec.dataOf a0 a1 a3 a4 a5 a6 a7 a8 a9 a10) b := by
  rw [valueArr_apply]
  unfold Cert.Spec.value
  refine congrArg₂ (fun x y => x + y) (Finset.sum_congr rfl fun h _ => ?_) rfl
  rw [hiddenArr_val a0 a1 a2 a3 a4 a5 a6 a7 a8 a9 a10 hr]
  rfl

omit hr

variable (m : (ℓ : Loc nD τ sig) → Buf (Elt Ideal) ℓ) (c : Dev nD)

/-- An argument array at the start. -/
abbrev arg (b : Ref sig .tc) := m ((c.tc : Thread nD τ).loc b)

theorem first_eq : res_main_v40 m c = outArr (arg m c main_arg7) (arg m c main_arg8) (hiddenArr (arg m c main_arg5) (arg m c main_arg6)
    (agentArr (arg m c main_arg0) (arg m c main_arg1) (arg m c main_arg3) (arg m c main_arg4))
    (meanArr (arg m c main_arg0) (arg m c main_arg1) (arg m c main_arg2) (arg m c main_arg3) (arg m c main_arg4))) := rfl

theorem second_eq : res_main_v36 m c = valueArr (arg m c main_arg9) (arg m c main_arg10) (hiddenArr (arg m c main_arg5) (arg m c main_arg6)
    (agentArr (arg m c main_arg0) (arg m c main_arg1) (arg m c main_arg3) (arg m c main_arg4))
    (meanArr (arg m c main_arg0) (arg m c main_arg1) (arg m c main_arg2) (arg m c main_arg3) (arg m c main_arg4))) := rfl

/-- The numbers that the argument arrays stand for. -/
abbrev data : Cert.Spec.Data :=
  Cert.Spec.dataOf (arg m c main_arg0) (arg m c main_arg1) (arg m c main_arg3) (arg m c main_arg4) (arg m c main_arg5)
    (arg m c main_arg6) (arg m c main_arg7) (arg m c main_arg8) (arg m c main_arg9) (arg m c main_arg10)

/-- The first result of the reference is that of the specification. -/
theorem first_val (hr : Cert.Spec.Ragged (arg m c main_arg1) (arg m c main_arg2)) :
    res_main_v40 m c = fun j => Cert.Spec.out (data m c) (j 0) (j 1) := by
  refine (first_eq m c).trans (funext fun j => ?_)
  obtain ⟨b, o, rfl⟩ : ∃ (b : Fin 16) (o : Fin 16), j = ix2 b o := ⟨j 0, j 1, eq_ix2 j⟩
  exact outArr_val (arg m c main_arg0) (arg m c main_arg1) (arg m c main_arg2) (arg m c main_arg3) (arg m c main_arg4) (arg m c main_arg5)
    (arg m c main_arg6) (arg m c main_arg7) (arg m c main_arg8) (arg m c main_arg9) (arg m c main_arg10) hr b o

/-- The second result of the reference is that of the specification. -/
theorem second_val (hr : Cert.Spec.Ragged (arg m c main_arg1) (arg m c main_arg2)) :
    res_main_v36 m c = fun j => Cert.Spec.value (data m c) (j 0) := by
  refine (second_eq m c).trans (funext fun j => ?_)
  obtain ⟨b, o, rfl⟩ : ∃ (b : Fin 16) (o : Fin 1), j = ix2 b o := ⟨j 0, j 1, eq_ix2 j⟩
  obtain rfl : o = 0 := Subsingleton.elim _ _
  exact valueArr_val (arg m c main_arg0) (arg m c main_arg1) (arg m c main_arg2) (arg m c main_arg3) (arg m c main_arg4) (arg m c main_arg5)
    (arg m c main_arg6) (arg m c main_arg7) (arg m c main_arg8) (arg m c main_arg9) (arg m c main_arg10) hr b

end Cert.ReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_segments_match
public import proofs.«01_k».proof.Proof.KernelSame
public import proofs.«01_k».proof.Proof.KernelIdealAnswer
public import proofs.«01_k».proof.Proof.ReferenceValue
public import Idealize.ShloMosaic.Adequacy
public import Idealize.ShloMosaic.Init

@[expose] public section

noncomputable section

namespace Cert.Proof

open Idealize.ShloMosaic Idealize.ShloMosaic.TcCoe Idealize.SL.Sem

/-- The frame of the kernel's program as printed. -/
theorem frame_kernel : Cert.quiescent_Kernel := fun m ρ _ => Cert.Kernel.Hand.frame m ρ

/-- The frame of the kernel's program at ideal floats. -/
theorem frame_kernelIdeal : Cert.quiescent_KernelIdeal := fun m ρ _ => Cert.KernelIdeal.Hand.frame m ρ
theorem frame_kernelIdeal_pre : Cert.quiescent_KernelIdeal_pre_segments_match := fun m ρ _ => Cert.KernelIdeal.Hand.frame m ρ

/-- The frame of the reference, which declares no semaphore. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run m ρ)
theorem frame_reference_pre : Cert.quiescent_ReferenceIdeal_pre_segments_match := fun m ρ _ =>
  (θ_run Cert.ReferenceIdeal.defs _ _).mono (fun r h => ⟨fun c => (h c).2.2, sem_eq_zero_of_no_sems (by decide) r.2⟩)
    (Cert.ReferenceIdeal.Value.run m ρ)

/-- Kernel and reference compute the same two results over the extended reals: both are the specification's. -/
theorem same_results : Cert.algebraic_KernelIdeal_ReferenceIdeal_pre_segments_match := by
  intro m ρ m' ρ' hpre hag
  have hr : ∀ c, Cert.Spec.Ragged (Cert.KernelIdeal.Hand.arg m c Cert.KernelIdeal.main_arg1) (Cert.KernelIdeal.Hand.arg m c Cert.KernelIdeal.main_arg2) :=
    fun c => Cert.Spec.ragged_of _ _ _ _ _ _ _ _ _ _ _ (hpre c).1 (hpre c).2.1 (hpre c).2.2
  have hr' : ∀ c, Cert.Spec.Ragged (Cert.ReferenceIdeal.Hand.arg m' c Cert.ReferenceIdeal.main_arg1)
      (Cert.ReferenceIdeal.Hand.arg m' c Cert.ReferenceIdeal.main_arg2) := fun c => by
    obtain ⟨-, h1, h2, -⟩ := hag c
    unfold Cert.ReferenceIdeal.Hand.arg
    rw [h1, h2]
    exact hr c
  have hd : ∀ c, Cert.ReferenceIdeal.Hand.data m' c = Cert.KernelIdeal.Hand.data m c := fun c => by
    obtain ⟨h0, h1, h2, h3, h4, h5, h6, h7, h8, h9, h10⟩ := hag c
    unfold Cert.ReferenceIdeal.Hand.data Cert.ReferenceIdeal.Hand.arg
    rw [h0, h1, h3, h4, h5, h6, h7, h8, h9, h10]
  refine ⟨Cert.KernelIdeal.Hand.firstResult m, Cert.KernelIdeal.Hand.secondResult m, ?_, ?_⟩
  · refine (θ_run Cert.KernelIdeal.defs _ _).mono (fun r h c => ⟨(h.1 c).1, (h.1 c).2, h.2.1 c⟩)
      (θ_run_and (Cert.KernelIdeal.Hand.results m ρ hr) (Cert.KernelIdeal.Hand.frame m ρ))
  · refine (θ_run Cert.ReferenceIdeal.defs _ _).mono (fun r h c => ⟨(h c).1.trans ?_, (h c).2.1.trans ?_, (h c).2.2⟩)
      (Cert.ReferenceIdeal.Value.run m' ρ')
    · refine (Cert.ReferenceIdeal.Hand.first_val m' c (hr' c)).trans ?_
      rw [hd c]
      rfl
    · refine (Cert.ReferenceIdeal.Hand.second_val m' c (hr' c)).trans ?_
      rw [hd c]
      rfl

theorem claim : Cert.Claim := ⟨Cert.Kernel.Gen.facts, Cert.KernelIdeal.Gen.facts, Cert.ReferenceIdeal.Gen.facts, Cert.Pre_segments_match.Gen.facts,
  frame_kernel, frame_kernelIdeal, frame_kernelIdeal_pre, frame_reference, frame_reference_pre, trivial, same_results⟩

end Cert.Proof

end
